-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x24x96 : Shape := ⟨4, ![2, 768, 24, 96]⟩
abbrev S2x6x24 : Shape := ⟨3, ![2, 6, 24]⟩
abbrev S2x768x24x192 : Shape := ⟨4, ![2, 768, 24, 192]⟩
abbrev S2x768x24 : Shape := ⟨3, ![2, 768, 24]⟩
abbrev S6x2x24 : Shape := ⟨3, ![6, 2, 24]⟩
abbrev S2x24x96x768 : Shape := ⟨4, ![2, 24, 96, 768]⟩
abbrev S2x24x192x768 : Shape := ⟨4, ![2, 24, 192, 768]⟩
abbrev S2x24x768 : Shape := ⟨3, ![2, 24, 768]⟩
abbrev S1x2x96x768 : Shape := ⟨4, ![1, 2, 96, 768]⟩
abbrev S1x2x192x768 : Shape := ⟨4, ![1, 2, 192, 768]⟩
abbrev S1x24x768 : Shape := ⟨3, ![1, 24, 768]⟩
abbrev S128x128 : Shape := ⟨2, ![128, 128]⟩
abbrev S1x1x768 : Shape := ⟨3, ![1, 1, 768]⟩
abbrev S1x768 : Shape := ⟨2, ![1, 768]⟩
abbrev S1x1x1 : Shape := ⟨3, ![1, 1, 1]⟩
abbrev S1x1x96x128 : Shape := ⟨4, ![1, 1, 96, 128]⟩
abbrev S96x128 : Shape := ⟨2, ![96, 128]⟩
abbrev S1x1x192x128 : Shape := ⟨4, ![1, 1, 192, 128]⟩
abbrev S192x128 : Shape := ⟨2, ![192, 128]⟩
abbrev S96x192 : Shape := ⟨2, ![96, 192]⟩
abbrev S1x128 : Shape := ⟨2, ![1, 128]⟩
abbrev S128x192 : Shape := ⟨2, ![128, 192]⟩
abbrev S128x96 : Shape := ⟨2, ![128, 96]⟩
abbrev S192x96 : Shape := ⟨2, ![192, 96]⟩

abbrev nBuf : Space → Nat
  | .hbm => 22
  | .vmem => 16
  | .smem => 3
  | _ => 0

abbrev bufTy : (tb : Table) → Fin (tcTables nBuf tb) → BufTy
  | .hbm, ⟨0, _⟩ => ⟨S2x768x24x96, .fp8e4m3⟩
  | .hbm, ⟨1, _⟩ => ⟨S2x6x24, .f32⟩
  | .hbm, ⟨2, _⟩ => ⟨S2x768x24x96, .fp8e4m3⟩
  | .hbm, ⟨3, _⟩ => ⟨S2x6x24, .f32⟩
  | .hbm, ⟨4, _⟩ => ⟨S2x768x24x192, .fp8e4m3⟩
  | .hbm, ⟨5, _⟩ => ⟨S2x6x24, .f32⟩
  | .hbm, ⟨6, _⟩ => ⟨S2x768x24x192, .fp8e5m2⟩
  | .hbm, ⟨7, _⟩ => ⟨S2x768x24, .f32⟩
  | .hbm, ⟨8, _⟩ => ⟨S6x2x24, .f32⟩
  | .hbm, ⟨9, _⟩ => ⟨S6x2x24, .f32⟩
  | .hbm, ⟨10, _⟩ => ⟨S6x2x24, .f32⟩
  | .hbm, ⟨11, _⟩ => ⟨S2x24x96x768, .fp8e4m3⟩
  | .hbm, ⟨12, _⟩ => ⟨S2x24x96x768, .fp8e4m3⟩
  | .hbm, ⟨13, _⟩ => ⟨S2x24x192x768, .fp8e4m3⟩
  | .hbm, ⟨14, _⟩ => ⟨S2x24x192x768, .fp8e5m2⟩
  | .hbm, ⟨15, _⟩ => ⟨S2x24x768, .f32⟩
  | .hbm, ⟨16, _⟩ => ⟨S2x24x96x768, .bf16⟩
  | .hbm, ⟨17, _⟩ => ⟨S2x24x96x768, .bf16⟩
  | .hbm, ⟨18, _⟩ => ⟨S2x24x192x768, .bf16⟩
  | .hbm, ⟨19, _⟩ => ⟨S2x768x24x96, .bf16⟩
  | .hbm, ⟨20, _⟩ => ⟨S2x768x24x96, .bf16⟩
  | .hbm, ⟨21, _⟩ => ⟨S2x768x24x192, .bf16⟩
  | .local _ .vmem, ⟨0, _⟩ => ⟨S1x2x96x768, .fp8e4m3⟩
  | .local _ .vmem, ⟨1, _⟩ => ⟨S1x2x96x768, .fp8e4m3⟩
  | .local _ .vmem, ⟨2, _⟩ => ⟨S1x2x96x768, .fp8e4m3⟩
  | .local _ .vmem, ⟨3, _⟩ => ⟨S1x2x96x768, .fp8e4m3⟩
  | .local _ .vmem, ⟨4, _⟩ => ⟨S1x2x192x768, .fp8e4m3⟩
  | .local _ .vmem, ⟨5, _⟩ => ⟨S1x2x192x768, .fp8e4m3⟩
  | .local _ .vmem, ⟨6, _⟩ => ⟨S1x2x192x768, .fp8e5m2⟩
  | .local _ .vmem, ⟨7, _⟩ => ⟨S1x2x192x768, .fp8e5m2⟩
  | .local _ .vmem, ⟨8, _⟩ => ⟨S1x24x768, .f32⟩
  | .local _ .vmem, ⟨9, _⟩ => ⟨S1x24x768, .f32⟩
  | .local _ .vmem, ⟨10, _⟩ => ⟨S1x2x96x768, .bf16⟩
  | .local _ .vmem, ⟨11, _⟩ => ⟨S1x2x96x768, .bf16⟩
  | .local _ .vmem, ⟨12, _⟩ => ⟨S1x2x96x768, .bf16⟩
  | .local _ .vmem, ⟨13, _⟩ => ⟨S1x2x96x768, .bf16⟩
  | .local _ .vmem, ⟨14, _⟩ => ⟨S1x2x192x768, .bf16⟩
  | .local _ .vmem, ⟨15, _⟩ => ⟨S1x2x192x768, .bf16⟩
  | .local _ .smem, ⟨0, _⟩ => ⟨S6x2x24, .f32⟩
  | .local _ .smem, ⟨1, _⟩ => ⟨S6x2x24, .f32⟩
  | .local _ .smem, ⟨2, _⟩ => ⟨S6x2x24, .f32⟩
  | _, _ => ⟨S2x768x24x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 12], ![false, false]⟩

def k0_off1 (i : grid0.Coords) (c0_i32 : BitVec 32) : Fin 3 → Nat :=
  let c0 : Index := 0#32
  let arg1 : BitVec 32 := BitVec.ofNat 32 (i 1).val
  let c2_i32 : BitVec 32 := 2#32
  let v4 : BitVec 32 := Scalar.muli arg1 c2_i32
  let v5 : BitVec 32 := Scalar.addi v4 c0_i32
  let v6 : Index := Scalar.indexCast v5
  let c0_0 : Index := 0#32
  ![0, v6.toNat, 0]
def k0_off2 (i : grid0.Coords) (c0_i32 : BitVec 32) : Fin 3 → Nat :=
  let c0_1 : Index := 0#32
  let arg0 : BitVec 32 := BitVec.ofNat 32 (i 0).val
  let v9 : Index := Scalar.indexCast arg0
  let arg1 : BitVec 32 := BitVec.ofNat 32 (i 1).val
  let c2_i32 : BitVec 32 := 2#32
  let v4 : BitVec 32 := Scalar.muli arg1 c2_i32
  let v5 : BitVec 32 := Scalar.addi v4 c0_i32
  let v10 : Index := Scalar.indexCast v5
  ![0, v9.toNat, v10.toNat]
def k0_off3 (i : grid0.Coords) (c0_i32 : BitVec 32) : Fin 3 → Nat :=
  let c1 : Index := 1#32
  let arg0 : BitVec 32 := BitVec.ofNat 32 (i 0).val
  let v12 : Index := Scalar.indexCast arg0
  let arg1 : BitVec 32 := BitVec.ofNat 32 (i 1).val
  let c2_i32 : BitVec 32 := 2#32
  let v4 : BitVec 32 := Scalar.muli arg1 c2_i32
  let v5 : BitVec 32 := Scalar.addi v4 c0_i32
  let v13 : Index := Scalar.indexCast v5
  ![1, v12.toNat, v13.toNat]
def k0_off4 (i : grid0.Coords) (c0_i32 : BitVec 32) : Fin 3 → Nat :=
  let c2 : Index := 2#32
  let arg0 : BitVec 32 := BitVec.ofNat 32 (i 0).val
  let v15 : Index := Scalar.indexCast arg0
  let arg1 : BitVec 32 := BitVec.ofNat 32 (i 1).val
  let c2_i32 : BitVec 32 := 2#32
  let v4 : BitVec 32 := Scalar.muli arg1 c2_i32
  let v5 : BitVec 32 := Scalar.addi v4 c0_i32
  let v16 : Index := Scalar.indexCast v5
  ![2, v15.toNat, v16.toNat]
def k0_off5 (i : grid0.Coords) (c0_i32 : BitVec 32) : Fin 3 → Nat :=
  let c3 : Index := 3#32
  let arg0 : BitVec 32 := BitVec.ofNat 32 (i 0).val
  let v18 : Index := Scalar.indexCast arg0
  let arg1 : BitVec 32 := BitVec.ofNat 32 (i 1).val
  let c2_i32 : BitVec 32 := 2#32
  let v4 : BitVec 32 := Scalar.muli arg1 c2_i32
  let v5 : BitVec 32 := Scalar.addi v4 c0_i32
  let v19 : Index := Scalar.indexCast v5
  ![3, v18.toNat, v19.toNat]
def k0_off6 (i : grid0.Coords) (c0_i32 : BitVec 32) : Fin 3 → Nat :=
  let c4 : Index := 4#32
  let arg0 : BitVec 32 := BitVec.ofNat 32 (i 0).val
  let v21 : Index := Scalar.indexCast arg0
  let arg1 : BitVec 32 := BitVec.ofNat 32 (i 1).val
  let c2_i32 : BitVec 32 := 2#32
  let v4 : BitVec 32 := Scalar.muli arg1 c2_i32
  let v5 : BitVec 32 := Scalar.addi v4 c0_i32
  let v22 : Index := Scalar.indexCast v5
  ![4, v21.toNat, v22.toNat]
def k0_off7 (i : grid0.Coords) (c0_i32 : BitVec 32) : Fin 3 → Nat :=
  let c5 : Index := 5#32
  let arg0 : BitVec 32 := BitVec.ofNat 32 (i 0).val
  let v24 : Index := Scalar.indexCast arg0
  let arg1 : BitVec 32 := BitVec.ofNat 32 (i 1).val
  let c2_i32 : BitVec 32 := 2#32
  let v4 : BitVec 32 := Scalar.muli arg1 c2_i32
  let v5 : BitVec 32 := Scalar.addi v4 c0_i32
  let v25 : Index := Scalar.indexCast v5
  ![5, v24.toNat, v25.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S6x2x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S6x2x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S6x2x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x96x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x96x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x192x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x192x768 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x24x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x96x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x96x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x192x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x768x24x96 : Shape := ⟨4, ![2, 768, 24, 96]⟩
abbrev S2x6x24 : Shape := ⟨3, ![2, 6, 24]⟩
abbrev S2x768x24x192 : Shape := ⟨4, ![2, 768, 24, 192]⟩
abbrev S2x768x24 : Shape := ⟨3, ![2, 768, 24]⟩
abbrev S2x6x128x24x96 : Shape := ⟨5, ![2, 6, 128, 24, 96]⟩
abbrev S2x24x6x128x96 : Shape := ⟨5, ![2, 24, 6, 128, 96]⟩
abbrev S2x6x128x24x192 : Shape := ⟨5, ![2, 6, 128, 24, 192]⟩
abbrev S2x24x6x128x192 : Shape := ⟨5, ![2, 24, 6, 128, 192]⟩
abbrev S2x24x6 : Shape := ⟨3, ![2, 24, 6]⟩
abbrev S2x6x128x24 : Shape := ⟨4, ![2, 6, 128, 24]⟩
abbrev S2x24x6x128 : Shape := ⟨4, ![2, 24, 6, 128]⟩
abbrev S2x24x6x1x1 : Shape := ⟨5, ![2, 24, 6, 1, 1]⟩
abbrev S2x24x6x128x1 : Shape := ⟨5, ![2, 24, 6, 128, 1]⟩
abbrev S2x24x6x96x192 : Shape := ⟨5, ![2, 24, 6, 96, 192]⟩
abbrev S2x24x1x96x192 : Shape := ⟨5, ![2, 24, 1, 96, 192]⟩
abbrev S_ : Shape := ⟨0, ![]⟩
abbrev S2x24x5x96x192 : Shape := ⟨5, ![2, 24, 5, 96, 192]⟩
abbrev S128x128 : Shape := ⟨2, ![128, 128]⟩
abbrev S2x24x6x128x128 : Shape := ⟨5, ![2, 24, 6, 128, 128]⟩

abbrev nBuf : Space → Nat
  | .hbm => 126
  | .vmem => 8
  | .smem => 0
  | _ => 0

abbrev bufTy : (tb : Table) → Fin (tcTables nBuf tb) → BufTy
  | .hbm, ⟨0, _⟩ => ⟨S2x768x24x96, .fp8e4m3⟩
  | .hbm, ⟨1, _⟩ => ⟨S2x6x24, .f32⟩
  | .hbm, ⟨2, _⟩ => ⟨S2x768x24x96, .fp8e4m3⟩
  | .hbm, ⟨3, _⟩ => ⟨S2x6x24, .f32⟩
  | .hbm, ⟨4, _⟩ => ⟨S2x768x24x192, .fp8e4m3⟩
  | .hbm, ⟨5, _⟩ => ⟨S2x6x24, .f32⟩
  | .hbm, ⟨6, _⟩ => ⟨S2x768x24x192, .fp8e5m2⟩
  | .hbm, ⟨7, _⟩ => ⟨S2x768x24, .f32⟩
  | .hbm, ⟨8, _⟩ => ⟨S2x768x24x96, .bf16⟩
  | .hbm, ⟨9, _⟩ => ⟨S2x768x24x96, .bf16⟩
  | .hbm, ⟨10, _⟩ => ⟨S2x768x24x192, .bf16⟩
  | .hbm, ⟨11, _⟩ => ⟨S2x768x24x192, .bf16⟩
  | .hbm, ⟨12, _⟩ => ⟨S2x6x128x24x96, .bf16⟩
  | .hbm, ⟨13, _⟩ => ⟨S2x24x6x128x96, .bf16⟩
  | .hbm, ⟨14, _⟩ => ⟨S2x6x128x24x96, .bf16⟩
  | .hbm, ⟨15, _⟩ => ⟨S2x24x6x128x96, .bf16⟩
  | .hbm, ⟨16, _⟩ => ⟨S2x6x128x24x192, .bf16⟩
  | .hbm, ⟨17, _⟩ => ⟨S2x24x6x128x192, .bf16⟩
  | .hbm, ⟨18, _⟩ => ⟨S2x6x128x24x192, .bf16⟩
  | .hbm, ⟨19, _⟩ => ⟨S2x24x6x128x192, .bf16⟩
  | .hbm, ⟨20, _⟩ => ⟨S2x24x6, .f32⟩
  | .hbm, ⟨21, _⟩ => ⟨S2x24x6, .f32⟩
  | .hbm, ⟨22, _⟩ => ⟨S2x24x6, .f32⟩
  | .hbm, ⟨23, _⟩ => ⟨S2x6x128x24, .f32⟩
  | .hbm, ⟨24, _⟩ => ⟨S2x24x6x128, .f32⟩
  | .hbm, ⟨25, _⟩ => ⟨S2x24x6, .bf16⟩
  | .hbm, ⟨26, _⟩ => ⟨S2x24x6x1x1, .bf16⟩
  | .hbm, ⟨27, _⟩ => ⟨S2x24x6x128x96, .bf16⟩
  | .hbm, ⟨28, _⟩ => ⟨S2x24x6x128x96, .bf16⟩
  | .hbm, ⟨29, _⟩ => ⟨S2x24x6, .bf16⟩
  | .hbm, ⟨30, _⟩ => ⟨S2x24x6x1x1, .bf16⟩
  | .hbm, ⟨31, _⟩ => ⟨S2x24x6x128x96, .bf16⟩
  | .hbm, ⟨32, _⟩ => ⟨S2x24x6x128x96, .bf16⟩
  | .hbm, ⟨33, _⟩ => ⟨S2x24x6, .bf16⟩
  | .hbm, ⟨34, _⟩ => ⟨S2x24x6x1x1, .bf16⟩
  | .hbm, ⟨35, _⟩ => ⟨S2x24x6x128x192, .bf16⟩
  | .hbm, ⟨36, _⟩ => ⟨S2x24x6x128x192, .bf16⟩
  | .hbm, ⟨37, _⟩ => ⟨S2x24x6x128, .bf16⟩
  | .hbm, ⟨38, _⟩ => ⟨S2x24x6x128x1, .bf16⟩
  | .hbm, ⟨39, _⟩ => ⟨S2x24x6x128x192, .bf16⟩
  | .hbm, ⟨40, _⟩ => ⟨S2x24x6x128x192, .bf16⟩
  | .hbm, ⟨41, _⟩ => ⟨S2x24x6x96x192, .f32⟩
  | .hbm, ⟨42, _⟩ => ⟨S2x24x6, .f32⟩
  | .hbm, ⟨43, _⟩ => ⟨S2x24x6x1x1, .f32⟩
  | .hbm, ⟨44, _⟩ => ⟨S2x24x6x96x192, .f32⟩
  | .hbm, ⟨45, _⟩ => ⟨S2x24x6x96x192, .f32⟩
  | .hbm, ⟨46, _⟩ => ⟨S2x24x6x96x192, .f32⟩
  | .hbm, ⟨47, _⟩ => ⟨S2x24x1x96x192, .f32⟩
  | .hbm, ⟨48, _⟩ => ⟨S_, .f32⟩
  | .hbm, ⟨49, _⟩ => ⟨S2x24x1x96x192, .f32⟩
  | .hbm, ⟨50, _⟩ => ⟨S_, .f32⟩
  | .hbm, ⟨51, _⟩ => ⟨S_, .f32⟩
  | .hbm, ⟨52, _⟩ => ⟨S2x24x6x96x192, .f32⟩
  | .hbm, ⟨53, _⟩ => ⟨S2x24x5x96x192, .f32⟩
  | .hbm, ⟨54, _⟩ => ⟨S2x24x6x96x192, .f32⟩
  | .hbm, ⟨55, _⟩ => ⟨S2x24x6x96x192, .bf16⟩
  | .hbm, ⟨56, _⟩ => ⟨S2x24x6x96x192, .f32⟩
  | .hbm, ⟨57, _⟩ => ⟨S_, .f32⟩
  | .hbm, ⟨58, _⟩ => ⟨S_, .f32⟩
  | .hbm, ⟨59, _⟩ => ⟨S2x24x6x96x192, .f32⟩
  | .hbm, ⟨60, _⟩ => ⟨S2x24x6x96x192, .f32⟩
  | .hbm, ⟨61, _⟩ => ⟨S2x24x5x96x192, .f32⟩
  | .hbm, ⟨62, _⟩ => ⟨S2x24x6x96x192, .f32⟩
  | .hbm, ⟨63, _⟩ => ⟨S2x24x6x96x192, .bf16⟩
  | .hbm, ⟨64, _⟩ => ⟨S_, .i1⟩
  | .hbm, ⟨65, _⟩ => ⟨S128x128, .i1⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .i1⟩
  | .hbm, ⟨73, _⟩ => ⟨S128x128, .i1⟩
  | .hbm, ⟨74, _⟩ => ⟨S128x128, .i1⟩
  | .hbm, ⟨75, _⟩ => ⟨S2x24x6x128x128, .f32⟩
  | .hbm, ⟨76, _⟩ => ⟨S2x24x6x128x1, .f32⟩
  | .hbm, ⟨77, _⟩ => ⟨S2x24x6x128x128, .f32⟩
  | .hbm, ⟨78, _⟩ => ⟨S2x24x6x128x128, .f32⟩
  | .hbm, ⟨79, _⟩ => ⟨S2x24x6x1x1, .f32⟩
  | .hbm, ⟨80, _⟩ => ⟨S2x24x6x128x128, .f32⟩
  | .hbm, ⟨81, _⟩ => ⟨S2x24x6x128x128, .f32⟩
  | .hbm, ⟨82, _⟩ => ⟨S_, .f32⟩
  | .hbm, ⟨83, _⟩ => ⟨S_, .f32⟩
  | .hbm, ⟨84, _⟩ => ⟨S2x24x6x128x128, .i1⟩
  | .hbm, ⟨85, _⟩ => ⟨S2x24x6x128x128, .f32⟩
  | .hbm, ⟨86, _⟩ => ⟨S2x24x6x128x128, .f32⟩
  | .hbm, ⟨87, _⟩ => ⟨S2x24x6x128x128, .bf16⟩
  | .hbm, ⟨88, _⟩ => ⟨S2x24x6x128x128, .f32⟩
  | .hbm, ⟨89, _⟩ => ⟨S2x24x6, .f32⟩
  | .hbm, ⟨90, _⟩ => ⟨S2x24x6x1x1, .f32⟩
  | .hbm, ⟨91, _⟩ => ⟨S2x24x6x128x128, .f32⟩
  | .hbm, ⟨92, _⟩ => ⟨S2x24x6x128x128, .f32⟩
  | .hbm, ⟨93, _⟩ => ⟨S_, .f32⟩
  | .hbm, ⟨94, _⟩ => ⟨S_, .f32⟩
  | .hbm, ⟨95, _⟩ => ⟨S2x24x6x128x128, .i1⟩
  | .hbm, ⟨96, _⟩ => ⟨S2x24x6x128x128, .f32⟩
  | .hbm, ⟨97, _⟩ => ⟨S2x24x6x128x128, .f32⟩
  | .hbm, ⟨98, _⟩ => ⟨S2x24x6x128x128, .bf16⟩
  | .hbm, ⟨99, _⟩ => ⟨S2x24x6x128x96, .f32⟩
  | .hbm, ⟨100, _⟩ => ⟨S2x24x6x128x96, .f32⟩
  | .hbm, ⟨101, _⟩ => ⟨S2x24x6x128x96, .f32⟩
  | .hbm, ⟨102, _⟩ => ⟨S2x24x6x128x96, .f32⟩
  | .hbm, ⟨103, _⟩ => ⟨S2x24x6x128x96, .f32⟩
  | .hbm, ⟨104, _⟩ => ⟨S2x24x6x128x96, .f32⟩
  | .hbm, ⟨105, _⟩ => ⟨S2x24x6x128x192, .f32⟩
  | .hbm, ⟨106, _⟩ => ⟨S2x24x6x128x192, .f32⟩
  | .hbm, ⟨107, _⟩ => ⟨S2x24x6x128x192, .f32⟩
  | .hbm, ⟨108, _⟩ => ⟨S_, .f32⟩
  | .hbm, ⟨109, _⟩ => ⟨S2x24x6x128x96, .f32⟩
  | .hbm, ⟨110, _⟩ => ⟨S2x24x6x128x96, .f32⟩
  | .hbm, ⟨111, _⟩ => ⟨S2x24x6x128x96, .bf16⟩
  | .hbm, ⟨112, _⟩ => ⟨S2x6x128x24x96, .bf16⟩
  | .hbm, ⟨113, _⟩ => ⟨S2x768x24x96, .bf16⟩
  | .hbm, ⟨114, _⟩ => ⟨S_, .f32⟩
  | .hbm, ⟨115, _⟩ => ⟨S2x24x6x128x96, .f32⟩
  | .hbm, ⟨116, _⟩ => ⟨S2x24x6x128x96, .f32⟩
  | .hbm, ⟨117, _⟩ => ⟨S2x24x6x128x96, .bf16⟩
  | .hbm, ⟨118, _⟩ => ⟨S2x6x128x24x96, .bf16⟩
  | .hbm, ⟨119, _⟩ => ⟨S2x768x24x96, .bf16⟩
  | .hbm, ⟨120, _⟩ => ⟨S_, .f32⟩
  | .hbm, ⟨121, _⟩ => ⟨S2x24x6x128x192, .f32⟩
  | .hbm, ⟨122, _⟩ => ⟨S2x24x6x128x192, .f32⟩
  | .hbm, ⟨123, _⟩ => ⟨S2x24x6x128x192, .bf16⟩
  | .hbm, ⟨124, _⟩ => ⟨S2x6x128x24x192, .bf16⟩
  | .hbm, ⟨125, _⟩ => ⟨S2x768x24x192, .bf16⟩
  | .local _ .vmem, ⟨0, _⟩ => ⟨S2x768x24x96, .fp8e4m3⟩
  | .local _ .vmem, ⟨1, _⟩ => ⟨S2x768x24x96, .fp8e4m3⟩
  | .local _ .vmem, ⟨2, _⟩ => ⟨S2x768x24x192, .fp8e4m3⟩
  | .local _ .vmem, ⟨3, _⟩ => ⟨S2x768x24x192, .fp8e5m2⟩
  | .local _ .vmem, ⟨4, _⟩ => ⟨S2x768x24x96, .bf16⟩
  | .local _ .vmem, ⟨5, _⟩ => ⟨S2x768x24x96, .bf16⟩
  | .local _ .vmem, ⟨6, _⟩ => ⟨S2x768x24x192, .bf16⟩
  | .local _ .vmem, ⟨7, _⟩ => ⟨S2x768x24x192, .bf16⟩
  | _, _ => ⟨S2x768x24x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst : Ref sig .tc := ⟨.hbm, 48, rfl⟩
abbrev main_v37 : Ref sig .tc := ⟨.hbm, 49, rfl⟩
abbrev main_call0_call0_cst : Ref sig .tc := ⟨.hbm, 50, rfl⟩
abbrev main_call0_call0_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call2_call0_cst : Ref sig .tc := ⟨.hbm, 57, rfl⟩
abbrev main_call2_call0_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_v48 : Ref sig .tc := ⟨.hbm, 65, rfl⟩
abbrev main_call4_v0 : Ref sig .tc := ⟨.hbm, 66, rfl⟩
abbrev main_call4_c : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_c_0 : Ref sig .tc := ⟨.hbm, 72, rfl⟩
abbrev main_call4_v5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_0 : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_1 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_2 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_3 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_4 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x768x24x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x24x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x24x192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x24x192 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x24x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x24x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x768x24x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x768x24x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Vocab.lean ====
module

public import proofs.«01_k».proof.Proof.Gen.KernelIdeal

@[expose] public section

/-!
# What the kernel computes for one head, chunk by chunk

The kernel's body is unrolled over the two heads of a block and the six chunks of a sequence. These definitions are its
vector operations written once, for any chunk, over what it loads for one head.
-/

set_option maxRecDepth 16384

open Cert.KernelIdeal Cert.KernelIdeal.Gen
open Idealize.ShloMosaic

noncomputable section

namespace Cert.Vocab

variable {F : FTy → Type} [FloatOps F]

/-- What the body loads for one head: per chunk the three scales and the four code blocks; once, the row of the
    gradient's scales. -/
structure Loads (F : FTy → Type) [FloatOps F] where
  qs : Fin 6 → Elt F .f32
  ks : Fin 6 → Elt F .f32
  vs : Fin 6 → Elt F .f32
  q : Fin 6 → Vec F S1x1x96x128 .fp8e4m3
  k : Fin 6 → Vec F S1x1x96x128 .fp8e4m3
  v : Fin 6 → Vec F S1x1x192x128 .fp8e4m3
  g : Fin 6 → Vec F S1x1x192x128 .fp8e5m2
  row : Vec F S1x1x768 .f32

theorem slicesAt : ∀ c : Fin 6, S1x768.Slices ![0, 128 * c.val] S1x128 := by decide

/-- The first coordinate is at most the second. -/
def upper : IVec S128x128 1 :=
  cmpi .sle (iota .tc S128x128 32 [0] iota_S128x128_d0_w32) (iota .tc S128x128 32 [1] iota_S128x128_d1_w32)

/-- The first coordinate is at least the second. -/
def lower : IVec S128x128 1 :=
  cmpi .sge (iota .tc S128x128 32 [0] iota_S128x128_d0_w32) (iota .tc S128x128 32 [1] iota_S128x128_d1_w32)

variable (L : Loads F)

/-- The gradient's scales on chunk `c`, as a row. -/
def gsRow (c : Fin 6) : FVec F S1x128 .f32 :=
  extractStridedSlice S1x128 ![0, 128 * c.val] (shapeCast S1x768 L.row shapeCasts_S1x1x768_S1x768) (slicesAt c)

def q8 (c : Fin 6) : FVec F S96x128 .fp8e4m3 := shapeCast S96x128 (L.q c) shapeCasts_S1x1x96x128_S96x128
def k8 (c : Fin 6) : FVec F S96x128 .fp8e4m3 := shapeCast S96x128 (L.k c) shapeCasts_S1x1x96x128_S96x128
def v8 (c : Fin 6) : FVec F S192x128 .fp8e4m3 := shapeCast S192x128 (L.v c) shapeCasts_S1x1x192x128_S192x128
def g8 (c : Fin 6) : FVec F S192x128 .fp8e5m2 := shapeCast S192x128 (L.g c) shapeCasts_S1x1x192x128_S192x128

def qRaw (c : Fin 6) : FVec F S96x128 .bf16 := extf .bf16 (q8 L c) bitsLt_fp8e4m3_bf16
def kRaw (c : Fin 6) : FVec F S96x128 .bf16 := extf .bf16 (k8 L c) bitsLt_fp8e4m3_bf16
def vRaw (c : Fin 6) : FVec F S192x128 .bf16 := extf .bf16 (v8 L c) bitsLt_fp8e4m3_bf16
def gRaw (c : Fin 6) : FVec F S192x128 .bf16 := extf .bf16 (g8 L c) bitsLt_fp8e5m2_bf16

/-- The scaled operands on chunk `c`. -/
def qB (c : Fin 6) : FVec F S96x128 .bf16 :=
  mulf (qRaw L c) (broadcast S96x128 (Scalar.truncf .bf16 bitsLt_bf16_f32 (L.qs c)))
def kB (c : Fin 6) : FVec F S96x128 .bf16 :=
  mulf (kRaw L c) (broadcast S96x128 (Scalar.truncf .bf16 bitsLt_bf16_f32 (L.ks c)))
def vB (c : Fin 6) : FVec F S192x128 .bf16 :=
  mulf (vRaw L c) (broadcast S192x128 (Scalar.truncf .bf16 bitsLt_bf16_f32 (L.vs c)))
def gB (c : Fin 6) : FVec F S192x128 .bf16 :=
  mulf (gRaw L c) (broadcastTo S192x128 (truncf .bf16 (gsRow L c) bitsLt_bf16_f32) broadcasts_S1x128_S192x128)

/-- Chunk `c`'s contribution to the forward state. -/
def uAt (c : Fin 6) : FVec F S96x192 .f32 :=
  mulf (matmul dot_S96x128_S192x128_S96x192_1_1_0_0_n_n none (k8 L c) (v8 L c) (constant S96x192 .f32 0x00000000#32))
    (broadcast S96x192 (Scalar.mulf (L.ks c) (L.vs c)))

/-- The forward state after chunks `0` to `n`. -/
def sAcc : Nat → FVec F S96x192 .f32
  | 0 => uAt L 0
  | n + 1 => addf (sAcc n) (uAt L (Fin.ofNat 6 (n + 1)))

/-- Chunk `c`'s contribution to the state's gradient. -/
def wAt (c : Fin 6) : FVec F S192x96 .f32 :=
  matmul dot_S192x128_S96x128_S192x96_1_1_0_0_n_n none (gB L c) (qB L c) (constant S192x96 .f32 0x00000000#32)

/-- The state's gradient over chunks `5` down to `5 - n`. -/
def wAcc : Nat → FVec F S192x96 .f32
  | 0 => wAt L 5
  | n + 1 => addf (wAcc n) (wAt L (Fin.ofNat 6 (5 - (n + 1))))

/-- The causal matrix of value against gradient on chunk `c`, keys first. -/
def aT (c : Fin 6) : FVec F S128x128 .bf16 :=
  truncf .bf16 (select upper
    (mulf (mulf (matmul dot_S128x192_S192x128_S128x128_1_0_0_1_n_n none
        (truncf .fp8e4m3 (transpose S128x192 [1, 0] (vRaw L c) transposes_S192x128_p1_0_S128x192) bitsLt_fp8e4m3_bf16)
        (g8 L c) (constant S128x128 .f32 0x00000000#32))
      (broadcastTo S128x128 (gsRow L c) broadcasts_S1x128_S128x128)) (broadcast S128x128 (L.vs c)))
    (broadcast S128x128 (Scalar.ofBits .f32 0x00000000#32))) bitsLt_bf16_f32

/-- The causal matrix of query against key on chunk `c`. -/
def pB (c : Fin 6) : FVec F S128x128 .bf16 :=
  truncf .bf16 (select lower
    (mulf (matmul dot_S128x96_S96x128_S128x128_1_0_0_1_n_n none
        (truncf .fp8e4m3 (transpose S128x96 [1, 0] (qRaw L c) transposes_S96x128_p1_0_S128x96) bitsLt_fp8e4m3_bf16)
        (k8 L c) (constant S128x128 .f32 0x00000000#32))
      (broadcast S128x128 (Scalar.mulf (L.qs c) (L.ks c))))
    (broadcast S128x128 (Scalar.ofBits .f32 0x00000000#32))) bitsLt_bf16_f32

/-- The part of `q`'s gradient from inside chunk `c`. -/
def dqIn (c : Fin 6) : FVec F S96x128 .f32 :=
  matmul dot_S96x128_S128x128_S96x128_1_0_0_1_n_n none (kB L c) (aT L c) (constant S96x128 .f32 0x00000000#32)
def dkIn (c : Fin 6) : FVec F S96x128 .f32 :=
  matmul dot_S96x128_S128x128_S96x128_1_1_0_0_n_n none (qB L c) (aT L c) (constant S96x128 .f32 0x00000000#32)
def dvIn (c : Fin 6) : FVec F S192x128 .f32 :=
  matmul dot_S192x128_S128x128_S192x128_1_0_0_1_n_n none (gB L c) (pB L c) (constant S192x128 .f32 0x00000000#32)

/-- `q`'s gradient on chunk `c`: the first chunk has no state before it. -/
def dqSum (c : Fin 6) : FVec F S96x128 .f32 :=
  match c.val with
  | 0 => dqIn L c
  | n + 1 => addf (dqIn L c) (matmul dot_S96x192_S192x128_S96x128_1_0_0_1_n_n none
      (truncf .bf16 (sAcc L n) bitsLt_bf16_f32) (gB L c) (constant S96x128 .f32 0x00000000#32))

/-- `k`'s gradient on chunk `c`: the last chunk has none after it. -/
def dkSum (c : Fin 6) : FVec F S96x128 .f32 :=
  match 5 - c.val with
  | 0 => dkIn L c
  | n + 1 => addf (dkIn L c) (matmul dot_S96x192_S192x128_S96x128_1_0_0_1_n_n none
      (transpose S96x192 [1, 0] (truncf .bf16 (wAcc L n) bitsLt_bf16_f32) transposes_S192x96_p1_0_S96x192) (vB L c)
      (constant S96x128 .f32 0x00000000#32))

def dvSum (c : Fin 6) : FVec F S192x128 .f32 :=
  match 5 - c.val with
  | 0 => dvIn L c
  | n + 1 => addf (dvIn L c) (matmul dot_S192x96_S96x128_S192x128_1_0_0_1_n_n none
      (truncf .bf16 (wAcc L n) bitsLt_bf16_f32) (kB L c) (constant S192x128 .f32 0x00000000#32))

/-- A sum scaled, rounded and shaped as the block it is stored in. -/
def outNarrow (x : FVec F S96x128 .f32) : FVec F S1x1x96x128 .bf16 :=
  shapeCast S1x1x96x128 (truncf .bf16 (mulf x (broadcast S96x128 (Scalar.ofBits .f32 0x3DD105EC#32))) bitsLt_bf16_f32)
    shapeCasts_S96x128_S1x1x96x128
def outWide (x : FVec F S192x128 .f32) : FVec F S1x1x192x128 .bf16 :=
  shapeCast S1x1x192x128 (truncf .bf16 (mulf x (broadcast S192x128 (Scalar.ofBits .f32 0x3DD105EC#32))) bitsLt_bf16_f32)
    shapeCasts_S192x128_S1x1x192x128

/-! ### The loads -/

/-- Where head `j` of point `i` has its scale of chunk `c`. -/
def scaleOff (i : grid0.Coords) (j : Fin 2) (c : Fin 6) : Fin 3 → Nat :=
  ![c.val, (Scalar.indexCast (BitVec.ofNat 32 (i 0).val)).toNat,
    (Scalar.indexCast (Scalar.addi (Scalar.muli (BitVec.ofNat 32 (i 1).val) 2#32) (BitVec.ofNat 32 j.val))).toNat]

/-- Where head `j` of point `i` has its row of the gradient's scales. -/
def rowOff (i : grid0.Coords) (j : Fin 2) : Fin 3 → Nat :=
  ![0, (Scalar.indexCast (Scalar.addi (Scalar.muli (BitVec.ofNat 32 (i 1).val) 2#32) (BitVec.ofNat 32 j.val))).toNat, 0]

theorem scaleOff_inb : ∀ (i : grid0.Coords) (j : Fin 2) (c : Fin 6), ∀ a, scaleOff i j c a + S1x1x1.size a ≤ S6x2x24.size a := by
  decide +kernel

theorem rowOff_inb : ∀ (i : grid0.Coords) (j : Fin 2), ∀ a, rowOff i j a + S1x1x768.size a ≤ S1x24x768.size a := by
  decide +kernel

theorem narrow_inb : ∀ (j : Fin 2) (c : Fin 6), ∀ a, (![0, j.val, 0, 128 * c.val] : Fin 4 → Nat) a + S1x1x96x128.size a ≤ S1x2x96x768.size a := by
  decide

theorem wide_inb : ∀ (j : Fin 2) (c : Fin 6), ∀ a, (![0, j.val, 0, 128 * c.val] : Fin 4 → Nat) a + S1x1x192x128.size a ≤ S1x2x192x768.size a := by
  decide

/-- The rectangles of head `j`, chunk `c` in a block. -/
abbrev narrowRect (j : Fin 2) (c : Fin 6) : Rect S1x2x96x768 :=
  Rect.unit (s := S1x2x96x768) ![0, j.val, 0, 128 * c.val] S1x1x96x128.size (narrow_inb j c)
abbrev wideRect (j : Fin 2) (c : Fin 6) : Rect S1x2x192x768 :=
  Rect.unit (s := S1x2x192x768) ![0, j.val, 0, 128 * c.val] S1x1x192x128.size (wide_inb j c)
abbrev scaleRect (i : grid0.Coords) (j : Fin 2) (c : Fin 6) : Rect S6x2x24 :=
  Rect.unit (s := S6x2x24) (scaleOff i j c) S1x1x1.size (scaleOff_inb i j c)
abbrev rowRect (i : grid0.Coords) (j : Fin 2) : Rect S1x24x768 :=
  Rect.unit (s := S1x24x768) (rowOff i j) S1x1x768.size (rowOff_inb i j)

/-- The stores of one output, last first: the second head's chunks upwards, then the first head's. -/
def stores {α : Type} (f : Fin 2 → Fin 6 → α) : List α :=
  [f 1 0, f 1 1, f 1 2, f 1 3, f 1 4, f 1 5, f 0 0, f 0 1, f 0 2, f 0 3, f 0 4, f 0 5]

theorem mem_stores {α : Type} (f : Fin 2 → Fin 6 → α) (p : α) (h : p ∈ stores f) : ∃ j c, p = f j c := by
  simp only [stores, List.mem_cons, List.not_mem_nil, or_false] at h
  rcases h with h | h | h | h | h | h | h | h | h | h | h | h <;> exact ⟨_, _, h⟩

end Cert.Vocab

end
-- ==== Proof.Pieces.lean ====
module

public import proofs.«01_k».proof.Proof.Gen.KernelIdeal.Frame
public import proofs.«01_k».proof.Proof.Vocab

@[expose] public section

/-!
# The stores the run finds are the vocabulary's

Of every output, the run's list of stores is the list of the vocabulary's results, over the run's loads.
-/

set_option maxRecDepth 16384

open Cert.KernelIdeal Cert.KernelIdeal.Gen Cert.Vocab
open Idealize.ShloMosaic Idealize.ShloMosaic.TcCoe Idealize.SL.Sem

noncomputable section

namespace Cert.Pieces

variable {F : FTy → Type} [FloatOps F]

variable (c : Dev nD) (i : grid0.Coords) (arg2 : Memref sig .tc .smem S6x2x24 .f32) (harg2 : arg2.IsWhole) (arg3 : Memref sig .tc .smem S6x2x24 .f32) (harg3 : arg3.IsWhole) (arg4 : Memref sig .tc .smem S6x2x24 .f32) (harg4 : arg4.IsWhole) (arg5 : Memref sig .tc .vmem S1x2x96x768 .fp8e4m3) (harg5 : arg5.IsWhole) (arg6 : Memref sig .tc .vmem S1x2x96x768 .fp8e4m3) (harg6 : arg6.IsWhole) (arg7 : Memref sig .tc .vmem S1x2x192x768 .fp8e4m3) (harg7 : arg7.IsWhole) (arg8 : Memref sig .tc .vmem S1x2x192x768 .fp8e5m2) (harg8 : arg8.IsWhole) (arg9 : Memref sig .tc .vmem S1x24x768 .f32) (harg9 : arg9.IsWhole) (arg10 : Memref sig .tc .vmem S1x2x96x768 .bf16) (harg10 : arg10.IsWhole) (arg11 : Memref sig .tc .vmem S1x2x96x768 .bf16) (harg11 : arg11.IsWhole) (arg12 : Memref sig .tc .vmem S1x2x192x768 .bf16) (harg12 : arg12.IsWhole) (x0 : Vec F S6x2x24 .f32) (x1 : Vec F S6x2x24 .f32) (x2 : Vec F S6x2x24 .f32) (x3 : Vec F S1x2x96x768 .fp8e4m3) (x4 : Vec F S1x2x96x768 .fp8e4m3) (x5 : Vec F S1x2x192x768 .fp8e4m3) (x6 : Vec F S1x2x192x768 .fp8e5m2) (x7 : Vec F S1x24x768 .f32)

theorem one_pos : 0 < S1x1x1.numel := by decide

/-- What the run loads for head `j`. -/
def rawLoads (i : grid0.Coords) (j : Fin 2) : Loads F where
  qs c := View.readAt (Elt F) arg2.view (scaleRect i j c).toLoadRect (harg2.unread x0) (Shape.Idx.first one_pos)
  ks c := View.readAt (Elt F) arg3.view (scaleRect i j c).toLoadRect (harg3.unread x1) (Shape.Idx.first one_pos)
  vs c := View.readAt (Elt F) arg4.view (scaleRect i j c).toLoadRect (harg4.unread x2) (Shape.Idx.first one_pos)
  q c := View.readAt (Elt F) arg5.view (narrowRect j c).toLoadRect (harg5.unread x3)
  k c := View.readAt (Elt F) arg6.view (narrowRect j c).toLoadRect (harg6.unread x4)
  v c := View.readAt (Elt F) arg7.view (wideRect j c).toLoadRect (harg7.unread x5)
  g c := View.readAt (Elt F) arg8.view (wideRect j c).toLoadRect (harg8.unread x6)
  row := View.readAt (Elt F) arg9.view (rowRect i j).toLoadRect (harg9.unread x7)

set_option maxHeartbeats 8000000 in
theorem dq_pieces : (kernelRun0_A c i arg2 harg2 arg3 harg3 arg4 harg4 arg5 harg5 arg6 harg6 arg7 harg7 arg8 harg8 arg9 harg9 arg10 harg10 arg11 harg11 arg12 harg12 x0 x1 x2 x3 x4 x5 x6 x7).1
    = stores fun j c => ⟨narrowRect j c, outNarrow (dqSum (rawLoads arg2 harg2 arg3 harg3 arg4 harg4 arg5 harg5 arg6 harg6 arg7 harg7 arg8 harg8 arg9 harg9 x0 x1 x2 x3 x4 x5 x6 x7 i j) c)⟩ := by
  unfold kernelRun0_A
  dsimp only
  sl_unfold_words
  rfl

set_option maxHeartbeats 8000000 in
theorem dk_pieces : (kernelRun0_A c i arg2 harg2 arg3 harg3 arg4 harg4 arg5 harg5 arg6 harg6 arg7 harg7 arg8 harg8 arg9 harg9 arg10 harg10 arg11 harg11 arg12 harg12 x0 x1 x2 x3 x4 x5 x6 x7).2.1
    = stores fun j c => ⟨narrowRect j c, outNarrow (dkSum (rawLoads arg2 harg2 arg3 harg3 arg4 harg4 arg5 harg5 arg6 harg6 arg7 harg7 arg8 harg8 arg9 harg9 x0 x1 x2 x3 x4 x5 x6 x7 i j) c)⟩ := by
  unfold kernelRun0_A
  dsimp only
  sl_unfold_words
  rfl

set_option maxHeartbeats 8000000 in
theorem dv_pieces : (kernelRun0_A c i arg2 harg2 arg3 harg3 arg4 harg4 arg5 harg5 arg6 harg6 arg7 harg7 arg8 harg8 arg9 harg9 arg10 harg10 arg11 harg11 arg12 harg12 x0 x1 x2 x3 x4 x5 x6 x7).2.2.1
    = stores fun j c => ⟨wideRect j c, outWide (dvSum (rawLoads arg2 harg2 arg3 harg3 arg4 harg4 arg5 harg5 arg6 harg6 arg7 harg7 arg8 harg8 arg9 harg9 x0 x1 x2 x3 x4 x5 x6 x7 i j) c)⟩ := by
  unfold kernelRun0_A
  dsimp only
  sl_unfold_words
  rfl

end Cert.Pieces

end
-- ==== Proof.Spec.lean ====
module

public import Idealize.ShloMosaic.Lib.ValueIdxCore
public import Idealize.ShloMosaic.PureOps.Ideal

@[expose] public section

/-!
# The mathematics of one head

Both programs compute, for each batch entry and each head on its own, the backward pass of a causal linear attention
that runs over six chunks of 128 positions. This module states that computation on one head's numbers, with plain sums
over the extended reals, and says which entries of the argument arrays one head's numbers are.
-/

set_option maxRecDepth 16384

open Idealize.ShloMosaic
open Idealize.ShloMosaic.ValueIdx

noncomputable section

namespace Cert.Spec

/-- One head's numbers, by chunk: codes of `q`, `k`, `v` and of the incoming gradient `g`; a scale per chunk for the
    first three and a scale per position for the gradient. -/
@[ext] structure Head where
  q : Fin 6 → Fin 128 → Fin 96 → EReal
  k : Fin 6 → Fin 128 → Fin 96 → EReal
  v : Fin 6 → Fin 128 → Fin 192 → EReal
  g : Fin 6 → Fin 128 → Fin 192 → EReal
  qs : Fin 6 → EReal
  ks : Fin 6 → EReal
  vs : Fin 6 → EReal
  gs : Fin 6 → Fin 128 → EReal

variable (x : Head)

/-- The causal matrix of gradient against value inside chunk `c`. -/
def Head.A (c : Fin 6) (t s : Fin 128) : EReal :=
  if s ≤ t then (∑ e : Fin 192, x.g c t e * x.v c s e) * x.gs c t * x.vs c else 0

/-- The causal matrix of query against key inside chunk `c`. -/
def Head.P (c : Fin 6) (t s : Fin 128) : EReal :=
  if s ≤ t then (∑ d : Fin 96, x.q c t d * x.k c s d) * (x.qs c * x.ks c) else 0

/-- Chunk `c`'s contribution to the forward state. -/
def Head.U (c : Fin 6) (d : Fin 96) (e : Fin 192) : EReal :=
  (∑ s : Fin 128, x.k c s d * x.v c s e) * (x.ks c * x.vs c)

/-- Chunk `c`'s contribution to the state's gradient. -/
def Head.W (c : Fin 6) (d : Fin 96) (e : Fin 192) : EReal :=
  ∑ t : Fin 128, (x.q c t d * x.qs c) * (x.g c t e * x.gs c t)

/-- The forward state before chunk `c`. -/
def Head.S (c : Fin 6) (d : Fin 96) (e : Fin 192) : EReal := ∑ i : Fin 6, if i < c then x.U i d e else 0

/-- The state's gradient after chunk `c`. -/
def Head.D (c : Fin 6) (d : Fin 96) (e : Fin 192) : EReal := ∑ i : Fin 6, if c < i then x.W i d e else 0

/-- The gradient of `q` on chunk `c`, the factor `σ` last. -/
def Head.DQ (σ : EReal) (c : Fin 6) (t : Fin 128) (d : Fin 96) : EReal :=
  ((∑ e : Fin 192, (x.g c t e * x.gs c t) * x.S c d e) + ∑ s : Fin 128, x.A c t s * (x.k c s d * x.ks c)) * σ

/-- The gradient of `k` on chunk `c`. -/
def Head.DK (σ : EReal) (c : Fin 6) (s : Fin 128) (d : Fin 96) : EReal :=
  ((∑ e : Fin 192, (x.v c s e * x.vs c) * x.D c d e) + ∑ t : Fin 128, x.A c t s * (x.q c t d * x.qs c)) * σ

/-- The gradient of `v` on chunk `c`. -/
def Head.DV (σ : EReal) (c : Fin 6) (s : Fin 128) (e : Fin 192) : EReal :=
  ((∑ d : Fin 96, (x.k c s d * x.ks c) * x.D c d e) + ∑ t : Fin 128, x.P c t s * (x.g c t e * x.gs c t)) * σ

/-- The factor both programs multiply every result by: the constant they print. -/
def scale : EReal := Ideal.ofBits .f32 0x3DD105EC#32

/-- Position `t` of chunk `c` in the whole sequence. -/
def pos (c : Fin 6) (t : Fin 128) : Fin 768 := ⟨128 * c.val + t.val, by have := c.isLt; have := t.isLt; omega⟩

/-- The chunk of a position. -/
def chunkOf (p : Fin 768) : Fin 6 := ⟨p.val / 128, by have := p.isLt; omega⟩

/-- A position inside its chunk. -/
def within (p : Fin 768) : Fin 128 := ⟨p.val % 128, by omega⟩

theorem pos_eta (p : Fin 768) : pos (chunkOf p) (within p) = p := by
  apply Fin.ext; simp only [pos, chunkOf, within]; omega

theorem chunkOf_pos (c : Fin 6) (t : Fin 128) : chunkOf (pos c t) = c := by
  apply Fin.ext; simp only [pos, chunkOf]; have := t.isLt; omega

theorem within_pos (c : Fin 6) (t : Fin 128) : within (pos c t) = t := by
  apply Fin.ext; simp only [pos, within]; have := t.isLt; omega

/-- Small counters compare signed as the numbers they are. -/
theorem sle_ofNat (a b : Nat) (ha : a < 128) (hb : b < 128) :
    (BitVec.ofNat 32 a).sle (BitVec.ofNat 32 b) = decide (a ≤ b) := by
  have hn : ∀ n : Nat, n < 128 → (BitVec.ofNat 32 n).toInt = (n : Int) := fun n h => by
    rw [BitVec.toInt_eq_toNat_of_lt (by rw [BitVec.toNat_ofNat]; omega), BitVec.toNat_ofNat,
      Nat.mod_eq_of_lt (by omega)]
  rw [BitVec.sle_eq_decide, hn a ha, hn b hb]
  simp

/-- Head `h` of batch entry `b`, out of the eight argument arrays. -/
def headOf (a0 : (⟨4, ![2, 768, 24, 96]⟩ : Shape).Idx → EReal) (a1 : (⟨3, ![2, 6, 24]⟩ : Shape).Idx → EReal)
    (a2 : (⟨4, ![2, 768, 24, 96]⟩ : Shape).Idx → EReal) (a3 : (⟨3, ![2, 6, 24]⟩ : Shape).Idx → EReal)
    (a4 : (⟨4, ![2, 768, 24, 192]⟩ : Shape).Idx → EReal) (a5 : (⟨3, ![2, 6, 24]⟩ : Shape).Idx → EReal)
    (a6 : (⟨4, ![2, 768, 24, 192]⟩ : Shape).Idx → EReal) (a7 : (⟨3, ![2, 768, 24]⟩ : Shape).Idx → EReal)
    (b : Fin 2) (h : Fin 24) : Head where
  q := fun c t d => a0 (ix4 b (pos c t) h d)
  k := fun c t d => a2 (ix4 b (pos c t) h d)
  v := fun c t d => a4 (ix4 b (pos c t) h d)
  g := fun c t d => a6 (ix4 b (pos c t) h d)
  qs := fun c => a1 (ix3 b c h)
  ks := fun c => a3 (ix3 b c h)
  vs := fun c => a5 (ix3 b c h)
  gs := fun c t => a7 (ix3 b (pos c t) h)

end Cert.Spec

end
-- ==== Proof.HeadValue.lean ====
module

public import proofs.«01_k».proof.Proof.Vocab
public import proofs.«01_k».proof.Proof.Spec
public import Idealize.ShloMosaic.Lib.MatmulPlain
public import Idealize.ShloMosaic.Lib.Pipeline.Value

@[expose] public section

/-!
# The vocabulary's vectors are the mathematics of one head

Over the extended reals every vector of the vocabulary, read at an index, is the quantity of the same name in the
mathematics of one head. The kernel multiplies some pairs in the other order and adds some pairs in the other order;
nothing else differs.
-/

set_option maxRecDepth 16384

open Cert.KernelIdeal Cert.KernelIdeal.Gen Cert.Spec Cert.Vocab
open Idealize.ShloMosaic Idealize.ShloMosaic.ValueIdx
open scoped BigOperators

noncomputable section

namespace Cert.HeadValue

/-! ### Reading layout operations and products -/

theorem dropUnits {α : Type} {m n : Nat} (x : (⟨4, ![1, 1, m, n]⟩ : Shape).Idx → α)
    (h : (⟨4, ![1, 1, m, n]⟩ : Shape).ShapeCasts ⟨2, ![m, n]⟩) (a : Fin m) (b : Fin n) :
    shapeCast ⟨2, ![m, n]⟩ x h (ix2 a b) = x (ix4 0 0 a b) := by
  refine shapeCast_apply x h (ix2 a b) (ix4 0 0 a b) ?_
  rw [Shape.rowMajor_val_four, Shape.rowMajor_val_two]
  show ((0 * 1 + 0) * m + a.val) * n + b.val = a.val * n + b.val
  simp

theorem addUnits {α : Type} {m n : Nat} (x : (⟨2, ![m, n]⟩ : Shape).Idx → α)
    (h : (⟨2, ![m, n]⟩ : Shape).ShapeCasts ⟨4, ![1, 1, m, n]⟩) (j : (⟨4, ![1, 1, m, n]⟩ : Shape).Idx) :
    shapeCast ⟨4, ![1, 1, m, n]⟩ x h j = x (ix2 (j 2) (j 3)) := by
  refine shapeCast_apply x h j (ix2 (j 2) (j 3)) ?_
  rw [Shape.rowMajor_val_four, Shape.rowMajor_val_two]
  have h0 : (j 0).val < 1 := (j 0).isLt
  have h1 : (j 1).val < 1 := (j 1).isLt
  show (j 2).val * n + (j 3).val = (((j 0).val * 1 + (j 1).val) * m + (j 2).val) * n + (j 3).val
  rw [show (j 0).val = 0 by omega, show (j 1).val = 0 by omega]
  simp

theorem dropUnit {α : Type} {n : Nat} (x : (⟨3, ![1, 1, n]⟩ : Shape).Idx → α)
    (h : (⟨3, ![1, 1, n]⟩ : Shape).ShapeCasts ⟨2, ![1, n]⟩) (a : Fin 1) (b : Fin n) :
    shapeCast ⟨2, ![1, n]⟩ x h (ix2 a b) = x (ix3 0 0 b) := by
  refine shapeCast_apply x h (ix2 a b) (ix3 0 0 b) ?_
  rw [Shape.rowMajor_val_three, Shape.rowMajor_val_two]
  have h0 : a.val < 1 := a.isLt
  show (0 * 1 + 0) * n + b.val = a.val * n + b.val
  rw [show a.val = 0 by omega]

theorem flip2 {α : Type} {m n : Nat} (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) :=
  transpose_apply [1, 0] x h (ix2 a b) (ix2 b a) fun k => match k with
    | ⟨0, _⟩ => rfl
    | ⟨1, _⟩ => rfl

theorem spreadRow {α : Type} {m n : Nat} (hn : n ≠ 1) (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) :=
  broadcastTo_apply x h (ix2 a b) (ix2 0 b) fun k => match k with
    | ⟨0, _⟩ => rfl
    | ⟨1, _⟩ => (if_neg hn).symm

theorem zero_bits : (Scalar.ofBits .f32 0x00000000#32 : Ideal .f32) = 0 := by
  show Ideal.ofBits .f32 0x00000000#32 = 0
  simp [Ideal.ofBits, Ideal.ieee]

theorem product {M K N : Nat} {φ₁ φ₂ : FTy} (l : FVec Ideal ⟨2, ![M, K]⟩ φ₁) (r : FVec Ideal ⟨2, ![K, N]⟩ φ₂)
    (a : Fin M) (b : Fin N) :
    matmul (F := Ideal) (DotDims.plain M K N) none l r (constant ⟨2, ![M, N]⟩ .f32 0x00000000#32) (ix2 a b)
      = ∑ k : Fin K, l (ix2 a k) * r (ix2 k b) := by
  refine (Ideal.matmul_plain_apply none l r _ a b).trans ?_
  rw [show constant (F := Ideal) ⟨2, ![M, N]⟩ .f32 0x00000000#32 (ix2 a b) = 0 from zero_bits, zero_add]

theorem productT {M K N : Nat} {φ₁ φ₂ : FTy} (l : FVec Ideal ⟨2, ![M, K]⟩ φ₁) (r : FVec Ideal ⟨2, ![N, K]⟩ φ₂)
    (a : Fin M) (b : Fin N) :
    matmul (F := Ideal) (DotDims.transposedRhs M K N) none l r (constant ⟨2, ![M, N]⟩ .f32 0x00000000#32) (ix2 a b)
      = ∑ k : Fin K, l (ix2 a k) * r (ix2 b k) := by
  refine (Ideal.matmul_transposedRhs_apply none l r _ a b).trans ?_
  rw [show constant (F := Ideal) ⟨2, ![M, N]⟩ .f32 0x00000000#32 (ix2 a b) = 0 from zero_bits, zero_add]

/-! ### One head -/

variable (L : Loads Ideal)

/-- The head whose numbers the loads are: blocks hold channels first. -/
def head : Head where
  q c t d := L.q c (ix4 0 0 d t)
  k c t d := L.k c (ix4 0 0 d t)
  v c t d := L.v c (ix4 0 0 d t)
  g c t d := L.g c (ix4 0 0 d t)
  qs c := L.qs c
  ks c := L.ks c
  vs c := L.vs c
  gs c t := L.row (ix3 0 0 (pos c t))

theorem q8_at (c : Fin 6) (d : Fin 96) (t : Fin 128) : q8 L c (ix2 d t) = (head L).q c t d := dropUnits _ _ d t
theorem k8_at (c : Fin 6) (d : Fin 96) (t : Fin 128) : k8 L c (ix2 d t) = (head L).k c t d := dropUnits _ _ d t
theorem v8_at (c : Fin 6) (e : Fin 192) (t : Fin 128) : v8 L c (ix2 e t) = (head L).v c t e := dropUnits _ _ e t
theorem g8_at (c : Fin 6) (e : Fin 192) (t : Fin 128) : g8 L c (ix2 e t) = (head L).g c t e := dropUnits _ _ e t

theorem gsRow_at (c : Fin 6) (t : Fin 128) : gsRow L c (ix2 0 t) = (head L).gs c t := by
  unfold gsRow
  refine (extractStridedSlice_apply _ _ _ (ix2 0 t) (ix2 0 (pos c t)) fun a => match a with
    | ⟨0, _⟩ => rfl
    | ⟨1, _⟩ => rfl).trans ?_
  exact dropUnit _ _ 0 (pos c t)

theorem qB_at (c : Fin 6) (d : Fin 96) (t : Fin 128) : qB L c (ix2 d t) = (head L).q c t d * (head L).qs c :=
  congrArg (· * (head L).qs c) (q8_at L c d t)
theorem kB_at (c : Fin 6) (d : Fin 96) (t : Fin 128) : kB L c (ix2 d t) = (head L).k c t d * (head L).ks c :=
  congrArg (· * (head L).ks c) (k8_at L c d t)
theorem vB_at (c : Fin 6) (e : Fin 192) (t : Fin 128) : vB L c (ix2 e t) = (head L).v c t e * (head L).vs c :=
  congrArg (· * (head L).vs c) (v8_at L c e t)
theorem gB_at (c : Fin 6) (e : Fin 192) (t : Fin 128) : gB L c (ix2 e t) = (head L).g c t e * (head L).gs c t :=
  congrArg₂ (· * ·) (g8_at L c e t) ((spreadRow (by decide) _ _ e t).trans (gsRow_at L c t))

theorem uAt_at (c : Fin 6) (d : Fin 96) (e : Fin 192) : uAt L c (ix2 d e) = (head L).U c d e := by
  refine congrArg (· * ((head L).ks c * (head L).vs c)) ((productT (M := 96) (K := 128) (N := 192) _ _ d e).trans ?_)
  simp only [k8_at, v8_at]

theorem wAt_at (c : Fin 6) (e : Fin 192) (d : Fin 96) : wAt L c (ix2 e d) = (head L).W c d e := by
  refine (productT (M := 192) (K := 128) (N := 96) _ _ e d).trans ?_
  simp only [gB_at, qB_at]
  exact Finset.sum_congr rfl fun t _ => mul_comm _ _

/-- Taking one more term into a sum over the terms that satisfy a condition. -/
theorem sum_insert (f : Fin 6 → EReal) (p p' : Fin 6 → Prop) [DecidablePred p] [DecidablePred p'] (n : Fin 6)
    (hp : ∀ i, p' i ↔ p i ∨ i = n) (hn : ¬ p n) :
    (∑ i, if p i then f i else 0) + f n = ∑ i, if p' i then f i else 0 := by
  have h : f n = ∑ i, if i = n then f i else 0 := by rw [Finset.sum_ite_eq' Finset.univ n f]; simp
  rw [h, ← Finset.sum_add_distrib]
  refine Finset.sum_congr rfl fun i _ => ?_
  by_cases hi : i = n
  · subst hi; rw [if_neg hn, if_pos rfl, if_pos ((hp i).2 (.inr rfl)), zero_add]
  · rw [if_neg hi, add_zero]
    refine if_congr ?_ rfl rfl
    rw [hp i]
    exact ⟨.inl, fun h => h.resolve_right hi⟩

theorem sAcc_at (d : Fin 96) (e : Fin 192) : ∀ n : Nat, n < 6 →
    sAcc L n (ix2 d e) = ∑ i : Fin 6, if i.val ≤ n then (head L).U i d e else 0
  | 0, _ => by
    refine (uAt_at L 0 d e).trans ?_
    have h := sum_insert (fun i => (head L).U i d e) (fun _ => False) (fun i => i.val ≤ 0) 0
      (fun i => by rw [Fin.ext_iff]; simp) (by simp)
    simpa using h
  | n + 1, hn => by
    refine (congrArg₂ (· + ·) (sAcc_at d e n (by omega)) (uAt_at L _ d e)).trans ?_
    refine sum_insert (fun i => (head L).U i d e) _ _ (Fin.ofNat 6 (n + 1)) (fun i => ?_) ?_
    · rw [Fin.ext_iff]; show i.val ≤ n + 1 ↔ i.val ≤ n ∨ i.val = (n + 1) % 6; omega
    · show ¬ (n + 1) % 6 ≤ n; omega

theorem wAcc_at (d : Fin 96) (e : Fin 192) : ∀ n : Nat, n < 6 →
    wAcc L n (ix2 e d) = ∑ i : Fin 6, if 5 - n ≤ i.val then (head L).W i d e else 0
  | 0, _ => by
    refine (wAt_at L 5 e d).trans ?_
    have h := sum_insert (fun i => (head L).W i d e) (fun _ => False) (fun i => 5 - 0 ≤ i.val) 5
      (fun i => by rw [Fin.ext_iff]; have := i.isLt; show 5 - 0 ≤ i.val ↔ False ∨ i.val = 5; rw [false_or]; omega) (by simp)
    simpa using h
  | n + 1, hn => by
    refine (congrArg₂ (· + ·) (wAcc_at d e n (by omega)) (wAt_at L _ e d)).trans ?_
    refine sum_insert (fun i => (head L).W i d e) _ _ (Fin.ofNat 6 (5 - (n + 1))) (fun i => ?_) ?_
    · rw [Fin.ext_iff]
      show 5 - (n + 1) ≤ i.val ↔ 5 - n ≤ i.val ∨ i.val = (5 - (n + 1)) % 6
      omega
    · show ¬ 5 - n ≤ (5 - (n + 1)) % 6; omega

theorem upper_at (s t : Fin 128) : upper (ix2 s t) = BitVec.ofBool (decide (s ≤ t)) := by
  unfold upper
  show BitVec.ofBool ((iota .tc S128x128 32 [0] iota_S128x128_d0_w32 (ix2 s t)).sle
    (iota .tc S128x128 32 [1] iota_S128x128_d1_w32 (ix2 s t))) = _
  rw [iota_single_apply, iota_single_apply]
  exact congrArg BitVec.ofBool (sle_ofNat s.val t.val s.isLt t.isLt)

theorem lower_at (t s : Fin 128) : lower (ix2 t s) = BitVec.ofBool (decide (s ≤ t)) := by
  unfold lower
  show BitVec.ofBool ((iota .tc S128x128 32 [1] iota_S128x128_d1_w32 (ix2 t s)).sle
    (iota .tc S128x128 32 [0] iota_S128x128_d0_w32 (ix2 t s))) = _
  rw [iota_single_apply, iota_single_apply]
  exact congrArg BitVec.ofBool (sle_ofNat s.val t.val s.isLt t.isLt)

theorem choose (p : Prop) [Decidable p] (x y : EReal) :
    Scalar.select (BitVec.ofBool (decide p)) x y = if p then x else y := by
  unfold Scalar.select
  refine if_congr ?_ rfl rfl
  by_cases h : p <;> simp [h]

theorem aT_at (c : Fin 6) (s t : Fin 128) : aT L c (ix2 s t) = (head L).A c t s := by
  have hm : (matmul (F := Ideal) dot_S128x192_S192x128_S128x128_1_0_0_1_n_n none
        (truncf .fp8e4m3 (transpose S128x192 [1, 0] (vRaw L c) transposes_S192x128_p1_0_S128x192) bitsLt_fp8e4m3_bf16)
        (g8 L c) (constant S128x128 .f32 0x00000000#32)) (ix2 s t)
      = ∑ e : Fin 192, (head L).g c t e * (head L).v c s e := by
    refine (product (M := 128) (K := 192) (N := 128) _ _ s t).trans (Finset.sum_congr rfl fun e _ => ?_)
    refine (mul_comm _ _).trans (congrArg₂ (· * ·) (g8_at L c e t) ?_)
    exact (flip2 (vRaw L c) transposes_S192x128_p1_0_S128x192 s e).trans (v8_at L c e s)
  have hg := (spreadRow (m := 128) (by decide) _ broadcasts_S1x128_S128x128 s t).trans (gsRow_at L c t)
  unfold Head.A
  rw [← hm, ← hg, ← choose, ← upper_at, ← zero_bits]
  rfl

theorem pB_at (c : Fin 6) (t s : Fin 128) : pB L c (ix2 t s) = (head L).P c t s := by
  have hm : (matmul (F := Ideal) dot_S128x96_S96x128_S128x128_1_0_0_1_n_n none
        (truncf .fp8e4m3 (transpose S128x96 [1, 0] (qRaw L c) transposes_S96x128_p1_0_S128x96) bitsLt_fp8e4m3_bf16)
        (k8 L c) (constant S128x128 .f32 0x00000000#32)) (ix2 t s)
      = ∑ d : Fin 96, (head L).q c t d * (head L).k c s d := by
    refine (product (M := 128) (K := 96) (N := 128) _ _ t s).trans (Finset.sum_congr rfl fun d _ => ?_)
    refine congrArg₂ (· * ·) ?_ (k8_at L c d s)
    exact (flip2 (qRaw L c) transposes_S96x128_p1_0_S128x96 t d).trans (q8_at L c d t)
  unfold Head.P
  rw [← hm, ← choose, ← lower_at, ← zero_bits]
  rfl

theorem dqIn_at (c : Fin 6) (d : Fin 96) (t : Fin 128) :
    dqIn L c (ix2 d t) = ∑ s : Fin 128, (head L).A c t s * ((head L).k c s d * (head L).ks c) := by
  refine (product (M := 96) (K := 128) (N := 128) _ _ d t).trans (Finset.sum_congr rfl fun s _ => ?_)
  exact (mul_comm _ _).trans (congrArg₂ (· * ·) (aT_at L c s t) (kB_at L c d s))

theorem dkIn_at (c : Fin 6) (d : Fin 96) (s : Fin 128) :
    dkIn L c (ix2 d s) = ∑ t : Fin 128, (head L).A c t s * ((head L).q c t d * (head L).qs c) := by
  refine (productT (M := 96) (K := 128) (N := 128) _ _ d s).trans (Finset.sum_congr rfl fun t _ => ?_)
  exact (mul_comm _ _).trans (congrArg₂ (· * ·) (aT_at L c s t) (qB_at L c d t))

theorem dvIn_at (c : Fin 6) (e : Fin 192) (s : Fin 128) :
    dvIn L c (ix2 e s) = ∑ t : Fin 128, (head L).P c t s * ((head L).g c t e * (head L).gs c t) := by
  refine (product (M := 192) (K := 128) (N := 128) _ _ e s).trans (Finset.sum_congr rfl fun t _ => ?_)
  exact (mul_comm _ _).trans (congrArg₂ (· * ·) (pB_at L c t s) (gB_at L c e t))

/-- Where there is no state, the product with the state is zero. -/
theorem no_state {n : Nat} (f s : Fin n → EReal) (hs : ∀ k, s k = 0) (y : EReal) : y = (∑ k, f k * s k) + y := by
  rw [Finset.sum_eq_zero fun k _ => by rw [hs k, mul_zero], zero_add]

theorem S_first (c : Fin 6) (hc : c.val = 0) (d : Fin 96) (e : Fin 192) : (head L).S c d e = 0 :=
  Finset.sum_eq_zero fun i _ => if_neg (by rw [Fin.lt_def]; omega)

theorem D_last (c : Fin 6) (hc : 5 - c.val = 0) (d : Fin 96) (e : Fin 192) : (head L).D c d e = 0 :=
  Finset.sum_eq_zero fun i _ => if_neg (by rw [Fin.lt_def]; have := i.isLt; omega)

theorem sAcc_S (c : Fin 6) (n : Nat) (hc : c.val = n + 1) (d : Fin 96) (e : Fin 192) :
    sAcc L n (ix2 d e) = (head L).S c d e := by
  rw [sAcc_at L d e n (by have := c.isLt; omega)]
  refine Finset.sum_congr rfl fun i _ => if_congr ?_ rfl rfl
  rw [Fin.lt_def]; omega

theorem wAcc_D (c : Fin 6) (n : Nat) (hc : 5 - c.val = n + 1) (d : Fin 96) (e : Fin 192) :
    wAcc L n (ix2 e d) = (head L).D c d e := by
  rw [wAcc_at L d e n (by omega)]
  refine Finset.sum_congr rfl fun i _ => if_congr ?_ rfl rfl
  rw [Fin.lt_def]; omega

theorem dqSum_at (c : Fin 6) (d : Fin 96) (t : Fin 128) : dqSum L c (ix2 d t)
    = (∑ e : Fin 192, ((head L).g c t e * (head L).gs c t) * (head L).S c d e)
      + ∑ s : Fin 128, (head L).A c t s * ((head L).k c s d * (head L).ks c) := by
  rcases hc : c.val with _ | n
  · rw [show dqSum L c = dqIn L c by unfold dqSum; rw [hc]]
    exact (dqIn_at L c d t).trans (no_state _ _ (fun e => S_first L c hc d e) _)
  · unfold dqSum
    rw [hc]
    refine (congrArg₂ (· + ·) (dqIn_at L c d t) ?_).trans (add_comm _ _)
    refine (product (M := 96) (K := 192) (N := 128) _ _ d t).trans (Finset.sum_congr rfl fun e _ => ?_)
    exact (mul_comm _ _).trans (congrArg₂ (· * ·) (gB_at L c e t) (sAcc_S L c n hc d e))

theorem dkSum_at (c : Fin 6) (d : Fin 96) (s : Fin 128) : dkSum L c (ix2 d s)
    = (∑ e : Fin 192, ((head L).v c s e * (head L).vs c) * (head L).D c d e)
      + ∑ t : Fin 128, (head L).A c t s * ((head L).q c t d * (head L).qs c) := by
  rcases hc : 5 - c.val with _ | n
  · rw [show dkSum L c = dkIn L c by unfold dkSum; rw [hc]]
    exact (dkIn_at L c d s).trans (no_state _ _ (fun e => D_last L c hc d e) _)
  · unfold dkSum
    rw [hc]
    refine (congrArg₂ (· + ·) (dkIn_at L c d s) ?_).trans (add_comm _ _)
    refine (product (M := 96) (K := 192) (N := 128) _ _ d s).trans (Finset.sum_congr rfl fun e _ => ?_)
    refine (mul_comm _ _).trans (congrArg₂ (· * ·) (vB_at L c e s) ?_)
    exact (flip2 _ transposes_S192x96_p1_0_S96x192 d e).trans (wAcc_D L c n hc d e)

theorem dvSum_at (c : Fin 6) (e : Fin 192) (s : Fin 128) : dvSum L c (ix2 e s)
    = (∑ d : Fin 96, ((head L).k c s d * (head L).ks c) * (head L).D c d e)
      + ∑ t : Fin 128, (head L).P c t s * ((head L).g c t e * (head L).gs c t) := by
  rcases hc : 5 - c.val with _ | n
  · rw [show dvSum L c = dvIn L c by unfold dvSum; rw [hc]]
    exact (dvIn_at L c e s).trans (no_state _ _ (fun d => D_last L c hc d e) _)
  · unfold dvSum
    rw [hc]
    refine (congrArg₂ (· + ·) (dvIn_at L c e s) ?_).trans (add_comm _ _)
    refine (product (M := 192) (K := 96) (N := 128) _ _ e s).trans (Finset.sum_congr rfl fun d _ => ?_)
    exact (mul_comm _ _).trans (congrArg₂ (· * ·) (kB_at L c d s) (wAcc_D L c n hc d e))

/-! ### What is stored -/

theorem dq_stored (c : Fin 6) (j : S1x1x96x128.Idx) :
    outNarrow (dqSum L c) j = (head L).DQ scale c (j 3) (j 2) :=
  (addUnits _ shapeCasts_S96x128_S1x1x96x128 j).trans (congrArg (· * scale) (dqSum_at L c (j 2) (j 3)))

theorem dk_stored (c : Fin 6) (j : S1x1x96x128.Idx) :
    outNarrow (dkSum L c) j = (head L).DK scale c (j 3) (j 2) :=
  (addUnits _ shapeCasts_S96x128_S1x1x96x128 j).trans (congrArg (· * scale) (dkSum_at L c (j 2) (j 3)))

theorem dv_stored (c : Fin 6) (j : S1x1x192x128.Idx) :
    outWide (dvSum L c) j = (head L).DV scale c (j 3) (j 2) :=
  (addUnits _ shapeCasts_S192x128_S1x1x192x128 j).trans (congrArg (· * scale) (dvSum_at L c (j 2) (j 3)))

end Cert.HeadValue

end
-- ==== Proof.Blocks.lean ====
module

public import proofs.«01_k».proof.Proof.Gen.KernelIdeal.Frame
public import proofs.«01_k».proof.Proof.Spec
public import Idealize.ShloMosaic.Lib.Pipeline.Value
public import Idealize.ShloMosaic.Lib.Claim

@[expose] public section

/-!
# The kernel's input blocks, read off the arguments

Before the region the program turns every argument channels first (scales: chunks first). A block of a turned array at
a grid point is read here at an index, as an entry of the argument.
-/

set_option maxRecDepth 16384

open Cert.KernelIdeal Cert.KernelIdeal.Gen Cert.Spec
open Idealize.ShloMosaic Idealize.ShloMosaic.TcCoe Idealize.SL.Sem Idealize.ShloMosaic.StableHlo Idealize.ShloMosaic.Pipeline
open Idealize.ShloMosaic.ValueIdx

noncomputable section

namespace Cert.Blocks

variable {F : FTy → Type} [FloatOps F]
variable (m : (ℓ : Loc nD τ sig) → Buf (Elt F) ℓ)

/-! ### The turned arrays -/

/-- What the eight arrays hold when the region starts. -/
theorem turned (c : Dev nD) : Gen.V m c main_v0 = transpose S6x2x24 [1, 0, 2] (m ((c.tc : Thread nD τ).loc main_arg1)) transposes_S2x6x24_S6x2x24_1_0_2
    ∧ Gen.V m c main_v1 = transpose S6x2x24 [1, 0, 2] (m ((c.tc : Thread nD τ).loc main_arg3)) transposes_S2x6x24_S6x2x24_1_0_2
    ∧ Gen.V m c main_v2 = transpose S6x2x24 [1, 0, 2] (m ((c.tc : Thread nD τ).loc main_arg5)) transposes_S2x6x24_S6x2x24_1_0_2
    ∧ Gen.V m c main_v3 = transpose S2x24x96x768 [0, 2, 3, 1] (m ((c.tc : Thread nD τ).loc main_arg0)) transposes_S2x768x24x96_S2x24x96x768_0_2_3_1
    ∧ Gen.V m c main_v4 = transpose S2x24x96x768 [0, 2, 3, 1] (m ((c.tc : Thread nD τ).loc main_arg2)) transposes_S2x768x24x96_S2x24x96x768_0_2_3_1
    ∧ Gen.V m c main_v5 = transpose S2x24x192x768 [0, 2, 3, 1] (m ((c.tc : Thread nD τ).loc main_arg4)) transposes_S2x768x24x192_S2x24x192x768_0_2_3_1
    ∧ Gen.V m c main_v6 = transpose S2x24x192x768 [0, 2, 3, 1] (m ((c.tc : Thread nD τ).loc main_arg6)) transposes_S2x768x24x192_S2x24x192x768_0_2_3_1
    ∧ Gen.V m c main_v7 = transpose S2x24x768 [0, 2, 1] (m ((c.tc : Thread nD τ).loc main_arg7)) transposes_S2x768x24_S2x24x768_0_2_1 := by
  refine ⟨?_, ?_, ?_, ?_, ?_, ?_, ?_, ?_⟩ <;>
  · show StableHlo.after (List.flatten [hostOps0]) _ _ = _
    simp only [hostOps0, List.flatten_cons, List.flatten_nil, List.append_nil, List.cons_append, List.nil_append]
    after_results

/-! ### Reading a rectangle of an array -/

/-- A unit-stride rectangle read at an index. -/
theorem read_unit {α : Type} {S : Shape} (X : S.Idx → α) (off size : Fin S.rank → Nat) (inb : ∀ a, off a + size a ≤ S.size a)
    (y : (Rect.unit off size inb).shape.Idx) (z : S.Idx) (hz : ∀ a, (z a).val = off a + (y a).val) :
    X ((Rect.unit off size inb).emb y) = X z := by
  refine congrArg X (funext fun a => Fin.ext ?_)
  refine Eq.trans ?_ (hz a).symm
  show off a + 1 * (y a).val = _
  rw [Nat.one_mul]

theorem block_0 (c : Dev nD) (t : Fin cfg0.N) (y : S6x2x24.Idx) (z : S6x2x24.Idx)
    (hz : ∀ a, (z a).val = win0_0.index t a * win0_0.size a + (y a).val) : Gen.iblk m c 0 t y = Gen.V m c main_v0 z :=
  read_unit (Gen.V m c main_v0) _ _ _ y z hz

theorem block_1 (c : Dev nD) (t : Fin cfg0.N) (y : S6x2x24.Idx) (z : S6x2x24.Idx)
    (hz : ∀ a, (z a).val = win0_1.index t a * win0_1.size a + (y a).val) : Gen.iblk m c 1 t y = Gen.V m c main_v1 z :=
  read_unit (Gen.V m c main_v1) _ _ _ y z hz

theorem block_2 (c : Dev nD) (t : Fin cfg0.N) (y : S6x2x24.Idx) (z : S6x2x24.Idx)
    (hz : ∀ a, (z a).val = win0_2.index t a * win0_2.size a + (y a).val) : Gen.iblk m c 2 t y = Gen.V m c main_v2 z :=
  read_unit (Gen.V m c main_v2) _ _ _ y z hz

theorem block_3 (c : Dev nD) (t : Fin cfg0.N) (y : S1x2x96x768.Idx) (z : S2x24x96x768.Idx)
    (hz : ∀ a, (z a).val = win0_3.index t a * win0_3.size a + (y a).val) : Gen.iblk m c 3 t y = Gen.V m c main_v3 z :=
  read_unit (Gen.V m c main_v3) _ _ _ y z hz

theorem block_4 (c : Dev nD) (t : Fin cfg0.N) (y : S1x2x96x768.Idx) (z : S2x24x96x768.Idx)
    (hz : ∀ a, (z a).val = win0_4.index t a * win0_4.size a + (y a).val) : Gen.iblk m c 4 t y = Gen.V m c main_v4 z :=
  read_unit (Gen.V m c main_v4) _ _ _ y z hz

theorem block_5 (c : Dev nD) (t : Fin cfg0.N) (y : S1x2x192x768.Idx) (z : S2x24x192x768.Idx)
    (hz : ∀ a, (z a).val = win0_5.index t a * win0_5.size a + (y a).val) : Gen.iblk m c 5 t y = Gen.V m c main_v5 z :=
  read_unit (Gen.V m c main_v5) _ _ _ y z hz

theorem block_6 (c : Dev nD) (t : Fin cfg0.N) (y : S1x2x192x768.Idx) (z : S2x24x192x768.Idx)
    (hz : ∀ a, (z a).val = win0_6.index t a * win0_6.size a + (y a).val) : Gen.iblk m c 6 t y = Gen.V m c main_v6 z :=
  read_unit (Gen.V m c main_v6) _ _ _ y z hz

theorem block_7 (c : Dev nD) (t : Fin cfg0.N) (y : S1x24x768.Idx) (z : S2x24x768.Idx)
    (hz : ∀ a, (z a).val = win0_7.index t a * win0_7.size a + (y a).val) : Gen.iblk m c 7 t y = Gen.V m c main_v7 z :=
  read_unit (Gen.V m c main_v7) _ _ _ y z hz

end Cert.Blocks

end
-- ==== Proof.KernelValue.lean ====
module

public import proofs.«01_k».proof.Proof.Pieces
public import proofs.«01_k».proof.Proof.HeadValue
public import proofs.«01_k».proof.Proof.Blocks
public import proofs.«01_k».proof.Proof.Gen.KernelIdeal.Run

@[expose] public section

/-!
# What the kernel leaves in its three arrays

At every grid point the run's loads for a head are that head's numbers out of the argument arrays, so a point's block
of each result is a block of one function of the arguments. The blocks tile the arrays.
-/

set_option maxRecDepth 16384

open Cert.KernelIdeal Cert.KernelIdeal.Gen Cert.Spec Cert.Vocab Cert.Blocks Cert.HeadValue
open Idealize.ShloMosaic Idealize.ShloMosaic.TcCoe Idealize.SL.Sem Idealize.ShloMosaic.StableHlo Idealize.ShloMosaic.Pipeline
open Idealize.ShloMosaic.ValueIdx

noncomputable section

namespace Cert.KernelValue

/-! ### Where things are -/

/-- The first grid coordinate is the batch entry. -/
def bAt (t : Fin cfg0.N) : Fin 2 := grid0.coords t 0

/-- The second grid coordinate is the pair of heads; `j` says which of the two. -/
def hAt (t : Fin cfg0.N) (j : Fin 2) : Fin 24 :=
  ⟨2 * (grid0.coords t 1).val + j.val, by
    have h : (grid0.coords t 1).val < 12 := (grid0.coords t 1).isLt
    have := j.isLt
    omega⟩

theorem scaleOff_eq : ∀ (i : grid0.Coords) (j : Fin 2) (c : Fin 6),
    scaleOff i j c = ![c.val, (i 0).val, 2 * (i 1).val + j.val] := by decide +kernel
theorem rowOff_eq : ∀ (i : grid0.Coords) (j : Fin 2), rowOff i j = ![0, 2 * (i 1).val + j.val, 0] := by decide +kernel

theorem scaleMaps : ∀ i : grid0.Coords, cc0_transform_0 i = ![0, 0, 0] ∧ cc0_transform_1 i = ![0, 0, 0]
    ∧ cc0_transform_2 i = ![0, 0, 0] := by decide +kernel
theorem blockMaps : ∀ i : grid0.Coords, cc0_transform_3 i = ![(i 0).val, (i 1).val, 0, 0]
    ∧ cc0_transform_4 i = ![(i 0).val, (i 1).val, 0, 0] ∧ cc0_transform_5 i = ![(i 0).val, (i 1).val, 0, 0]
    ∧ cc0_transform_6 i = ![(i 0).val, (i 1).val, 0, 0] ∧ cc0_transform_8 i = ![(i 0).val, (i 1).val, 0, 0]
    ∧ cc0_transform_9 i = ![(i 0).val, (i 1).val, 0, 0] ∧ cc0_transform_10 i = ![(i 0).val, (i 1).val, 0, 0] := by decide +kernel
theorem rowMap : ∀ i : grid0.Coords, cc0_transform_7 i = ![(i 0).val, 0, 0] := by decide +kernel

/-- A block of two heads, as a part of the array: head `j` of the block is head `hAt t j`. -/
theorem in_array {D : Nat} (f : Fin 4 → Nat) (t : Fin cfg0.N) (hf : f = ![(grid0.coords t 0).val, (grid0.coords t 1).val, 0, 0])
    (y : (⟨4, ![1, 2, D, 768]⟩ : Shape).Idx) (a : Fin 4) :
    ((ix4 (bAt t) (hAt t (y 1)) (y 2) (y 3) : (⟨4, ![2, 24, D, 768]⟩ : Shape).Idx) a).val
      = f a * (![1, 2, D, 768] : Fin 4 → Nat) a + (y a).val := by
  subst hf
  match a with
  | ⟨0, _⟩ =>
    have h : (y 0).val < 1 := (y 0).isLt
    show (grid0.coords t 0).val = (grid0.coords t 0).val * 1 + (y 0).val
    omega
  | ⟨1, _⟩ =>
    show 2 * (grid0.coords t 1).val + (y 1).val = (grid0.coords t 1).val * 2 + (y 1).val
    omega
  | ⟨2, _⟩ => show (y 2).val = 0 * D + (y 2).val; omega
  | ⟨3, _⟩ => show (y 3).val = 0 * 768 + (y 3).val; omega

/-- Head `j`, chunk `c` of a block. -/
theorem in_block {D : Nat} (j : Fin 2) (c : Fin 6) (y : (⟨4, ![1, 1, D, 128]⟩ : Shape).Idx) (a : Fin 4) :
    ((ix4 0 j (y 2) (pos c (y 3)) : (⟨4, ![1, 2, D, 768]⟩ : Shape).Idx) a).val
      = (![0, j.val, 0, 128 * c.val] : Fin 4 → Nat) a + (y a).val := by
  match a with
  | ⟨0, _⟩ => have h : (y 0).val < 1 := (y 0).isLt; show 0 = 0 + (y 0).val; omega
  | ⟨1, _⟩ => have h : (y 1).val < 1 := (y 1).isLt; show j.val = j.val + (y 1).val; omega
  | ⟨2, _⟩ => show (y 2).val = 0 + (y 2).val; omega
  | ⟨3, _⟩ => rfl

/-! ### The loads of a point -/

/-- A load from a whole buffer through a unit-stride rectangle. -/
theorem load_unit {κ : Kind} {sp : Space} {S : Shape} {e : EltTy} (arg : Memref sig κ sp S e) (h : arg.IsWhole) (x : Vec Ideal S e)
    (off size : Fin S.rank → Nat) (inb : ∀ a, off a + size a ≤ S.size a) (y : (Rect.unit off size inb).shape.Idx) (z : S.Idx)
    (hz : ∀ a, (z a).val = off a + (y a).val) :
    View.readAt (Elt Ideal) arg.view (Rect.unit off size inb).toLoadRect (h.unread x) y = x z := by
  rw [View.readAt_eq_ld, h.read_unread]
  exact read_unit x off size inb y z hz

variable (m : (ℓ : Loc nD τ sig) → Buf (Elt Ideal) ℓ)

/-- Head `h` of batch entry `b`, out of the kernel's arguments. -/
def hd (c : Dev nD) (b : Fin 2) (h : Fin 24) : Head :=
  headOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) b h

/-- A scale's load: the array of scales is one block, turned chunks first. -/
theorem scale_load (x : Vec Ideal S6x2x24 .f32) (arg : Memref sig .tc .smem S6x2x24 .f32) (h : arg.IsWhole)
    (t : Fin cfg0.N) (j : Fin 2) (ch : Fin 6) :
    View.readAt (Elt Ideal) arg.view (scaleRect (grid0.coords t) j ch).toLoadRect (h.unread x) (Shape.Idx.first Pieces.one_pos)
      = x (ix3 ch (bAt t) (hAt t j)) := by
  refine load_unit arg h x _ _ _ _ (ix3 ch (bAt t) (hAt t j)) fun a => ?_
  have h1 : ∀ a, ((Shape.Idx.first Pieces.one_pos : S1x1x1.Idx) a).val = 0 := by decide
  refine Eq.trans ?_ (congrArg₂ (· + ·) (congrFun (scaleOff_eq (grid0.coords t) j ch) a).symm (h1 a).symm)
  match a with
  | ⟨0, _⟩ => rfl
  | ⟨1, _⟩ => rfl
  | ⟨2, _⟩ => rfl

theorem turn3 {α : Type} (x : S2x6x24.Idx → α) (ch : Fin 6) (b : Fin 2) (h : Fin 24) :
    transpose S6x2x24 [1, 0, 2] x transposes_S2x6x24_S6x2x24_1_0_2 (ix3 ch b h) = x (ix3 b ch h) :=
  transpose_apply [1, 0, 2] x _ _ (ix3 b ch h) fun a => match a with
    | ⟨0, _⟩ => rfl | ⟨1, _⟩ => rfl | ⟨2, _⟩ => rfl

theorem turnRow {α : Type} (x : S2x768x24.Idx → α) (b : Fin 2) (h : Fin 24) (p : Fin 768) :
    transpose S2x24x768 [0, 2, 1] x transposes_S2x768x24_S2x24x768_0_2_1 (ix3 b h p) = x (ix3 b p h) :=
  transpose_apply [0, 2, 1] x _ _ (ix3 b p h) fun a => match a with
    | ⟨0, _⟩ => rfl | ⟨1, _⟩ => rfl | ⟨2, _⟩ => rfl

theorem turn4 {α : Type} {D : Nat} (x : (⟨4, ![2, 768, 24, D]⟩ : Shape).Idx → α)
    (h : (⟨4, ![2, 768, 24, D]⟩ : Shape).Transposes [0, 2, 3, 1] ⟨4, ![2, 24, D, 768]⟩) (b : Fin 2) (hh : Fin 24) (d : Fin D) (p : Fin 768) :
    transpose ⟨4, ![2, 24, D, 768]⟩ [0, 2, 3, 1] x h (ix4 b hh d p) = x (ix4 b p hh d) :=
  transpose_apply [0, 2, 3, 1] x _ _ (ix4 b p hh d) fun a => match a with
    | ⟨0, _⟩ => rfl | ⟨1, _⟩ => rfl | ⟨2, _⟩ => rfl | ⟨3, _⟩ => rfl

theorem whole3 (f : Fin 3 → Nat) (hf : f = ![0, 0, 0]) (y : S6x2x24.Idx) (a : Fin 3) :
    (y a).val = f a * S6x2x24.size a + (y a).val := by
  subst hf
  match a with
  | ⟨0, _⟩ => show (y 0).val = 0 * 6 + (y 0).val; omega
  | ⟨1, _⟩ => show (y 1).val = 0 * 2 + (y 1).val; omega
  | ⟨2, _⟩ => show (y 2).val = 0 * 24 + (y 2).val; omega

theorem scale_at (c : Dev nD) (t : Fin cfg0.N) (j : Fin 2) (ch : Fin 6) :
    (iblk m c 0 t (ix3 ch (bAt t) (hAt t j)) = (hd m c (bAt t) (hAt t j)).qs ch)
    ∧ (iblk m c 1 t (ix3 ch (bAt t) (hAt t j)) = (hd m c (bAt t) (hAt t j)).ks ch)
    ∧ (iblk m c 2 t (ix3 ch (bAt t) (hAt t j)) = (hd m c (bAt t) (hAt t j)).vs ch) := by
  obtain ⟨v0, v1, v2, -⟩ := turned m c
  obtain ⟨e0, e1, e2⟩ := scaleMaps (grid0.coords t)
  refine ⟨?_, ?_, ?_⟩
  · rw [block_0 m c t _ _ (whole3 _ e0 _), v0, turn3]; rfl
  · rw [block_1 m c t _ _ (whole3 _ e1 _), v1, turn3]; rfl
  · rw [block_2 m c t _ _ (whole3 _ e2 _), v2, turn3]; rfl

theorem code_at (c : Dev nD) (t : Fin cfg0.N) (j : Fin 2) (p : Fin 768) :
    (∀ d, iblk m c 3 t (ix4 0 j d p) = m ((c.tc : Thread nD τ).loc main_arg0) (ix4 (bAt t) p (hAt t j) d))
    ∧ (∀ d, iblk m c 4 t (ix4 0 j d p) = m ((c.tc : Thread nD τ).loc main_arg2) (ix4 (bAt t) p (hAt t j) d))
    ∧ (∀ d, iblk m c 5 t (ix4 0 j d p) = m ((c.tc : Thread nD τ).loc main_arg4) (ix4 (bAt t) p (hAt t j) d))
    ∧ (∀ d, iblk m c 6 t (ix4 0 j d p) = m ((c.tc : Thread nD τ).loc main_arg6) (ix4 (bAt t) p (hAt t j) d)) := by
  obtain ⟨-, -, -, v3, v4, v5, v6, -⟩ := turned m c
  obtain ⟨e3, e4, e5, e6, -⟩ := blockMaps (grid0.coords t)
  refine ⟨fun d => ?_, fun d => ?_, fun d => ?_, fun d => ?_⟩
  · rw [block_3 m c t _ _ (in_array (D := 96) _ t e3 _), v3]; exact turn4 _ _ _ _ d p
  · rw [block_4 m c t _ _ (in_array (D := 96) _ t e4 _), v4]; exact turn4 _ _ _ _ d p
  · rw [block_5 m c t _ _ (in_array (D := 192) _ t e5 _), v5]; exact turn4 _ _ _ _ d p
  · rw [block_6 m c t _ _ (in_array (D := 192) _ t e6 _), v6]; exact turn4 _ _ _ _ d p

theorem row_at (c : Dev nD) (t : Fin cfg0.N) (h : Fin 24) (p : Fin 768) :
    iblk m c 7 t (ix3 0 h p) = m ((c.tc : Thread nD τ).loc main_arg7) (ix3 (bAt t) p h) := by
  obtain ⟨-, -, -, -, -, -, -, v7⟩ := turned m c
  rw [block_7 m c t (ix3 0 h p) (ix3 (bAt t) h p) fun a => ?_, v7]
  · exact turnRow _ _ h p
  · refine Eq.trans ?_ (congrArg (· * S1x24x768.size a + ((ix3 0 h p : S1x24x768.Idx) a).val) (congrFun (rowMap (grid0.coords t)) a).symm)
    match a with
    | ⟨0, _⟩ => show (bAt t).val = (bAt t).val * 1 + 0; omega
    | ⟨1, _⟩ => show h.val = 0 * 24 + h.val; omega
    | ⟨2, _⟩ => show p.val = 0 * 768 + p.val; omega

/-- What point `t` loads for head `j`. -/
abbrev loads (c : Dev nD) (t : Fin cfg0.N) (j : Fin 2) : Loads Ideal :=
  (Pieces.rawLoads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) (grid0.coords t) j)

/-- The loads of a point for a head are the head's numbers. -/
theorem loads_head (c : Dev nD) (t : Fin cfg0.N) (j : Fin 2) : head (loads m c t j) = hd m c (bAt t) (hAt t j) := by
  refine Head.ext ?_ ?_ ?_ ?_ ?_ ?_ ?_ ?_
  · funext ch p d
    exact (load_unit _ _ _ _ _ _ (ix4 0 0 d p) _ (in_block (D := 96) j ch (ix4 0 0 d p))).trans ((code_at m c t j (pos ch p)).1 d)
  · funext ch p d
    exact (load_unit _ _ _ _ _ _ (ix4 0 0 d p) _ (in_block (D := 96) j ch (ix4 0 0 d p))).trans ((code_at m c t j (pos ch p)).2.1 d)
  · funext ch p d
    exact (load_unit _ _ _ _ _ _ (ix4 0 0 d p) _ (in_block (D := 192) j ch (ix4 0 0 d p))).trans ((code_at m c t j (pos ch p)).2.2.1 d)
  · funext ch p d
    exact (load_unit _ _ _ _ _ _ (ix4 0 0 d p) _ (in_block (D := 192) j ch (ix4 0 0 d p))).trans ((code_at m c t j (pos ch p)).2.2.2 d)
  · funext ch; exact (scale_load _ _ _ t j ch).trans (scale_at m c t j ch).1
  · funext ch; exact (scale_load _ _ _ t j ch).trans (scale_at m c t j ch).2.1
  · funext ch; exact (scale_load _ _ _ t j ch).trans (scale_at m c t j ch).2.2
  · funext ch p
    refine (load_unit _ _ _ _ _ _ (ix3 0 0 (pos ch p) : S1x1x768.Idx) (ix3 0 (hAt t j) (pos ch p) : S1x24x768.Idx) fun a => ?_).trans (row_at m c t (hAt t j) (pos ch p))
    refine Eq.trans ?_ (congrArg (· + ((ix3 0 0 (pos ch p) : S1x1x768.Idx) a).val) (congrFun (rowOff_eq (grid0.coords t) j) a).symm)
    match a with
    | ⟨0, _⟩ => rfl
    | ⟨1, _⟩ => rfl
    | ⟨2, _⟩ => show (pos ch p).val = 0 + (pos ch p).val; omega

/-! ### The three arrays -/

/-- What the three arrays end holding. -/
def dqArr (c : Dev nD) : S2x24x96x768.Idx → EReal := fun i =>
  (hd m c (i 0) (i 1)).DQ scale (chunkOf (i 3)) (within (i 3)) (i 2)
def dkArr (c : Dev nD) : S2x24x96x768.Idx → EReal := fun i =>
  (hd m c (i 0) (i 1)).DK scale (chunkOf (i 3)) (within (i 3)) (i 2)
def dvArr (c : Dev nD) : S2x24x192x768.Idx → EReal := fun i =>
  (hd m c (i 0) (i 1)).DV scale (chunkOf (i 3)) (within (i 3)) (i 2)

/-- A point's block of `dq`, as it leaves the run. -/
theorem dq_out (c : Dev nD) (t : Fin cfg0.N) (y : S1x2x96x768.Idx) : (outsAt0 m c t).1 y
    = (hd m c (bAt t) (hAt t (y 1))).DQ scale (chunkOf (y 3)) (within (y 3)) (y 2) := by
  unfold outsAt0 out0_A_8
  dsimp only
  have hcover := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t)
  rw [View.read_writes_eq_canon _ _ _ hcover]
  have hy := hcover y
  rw [Pieces.dq_pieces] at hy ⊢
  refine View.canon_apply_of_pieces (fun y : S1x2x96x768.Idx => (hd m c (bAt t) (hAt t (y 1))).DQ scale (chunkOf (y 3)) (within (y 3)) (y 2))
    _ (fun p hp x => ?_) y hy
  obtain ⟨j, ch, rfl⟩ := mem_stores _ _ hp
  refine (dq_stored (loads m c t j) ch x).trans ?_
  rw [read_unit (fun y : S1x2x96x768.Idx => (hd m c (bAt t) (hAt t (y 1))).DQ scale (chunkOf (y 3)) (within (y 3)) (y 2)) _ _ _ x _
    (in_block (D := 96) j ch x), loads_head]
  exact congrArg₂ (fun a b => (hd m c (bAt t) (hAt t j)).DQ scale a b (x 2)) (chunkOf_pos ch (x 3)).symm (within_pos ch (x 3)).symm

/-- What a point writes back of `dq` is its block of the array. -/
theorem dq_flushed (c : Dev nD) (t : Fin cfg0.N) :
    (dats m 0 c).flushed 8 t = (win0_8.blk t).view.read (Elt Ideal) (dqArr m c) := by
  show (cfg0.win 8).cut (grid0.coords t) ((dats m 0 c).after 8 t) = _
  rw [after0_8]
  funext y
  refine (dq_out m c t y).trans ?_
  exact (read_unit (dqArr m c) _ _ _ y _ (in_array (D := 96) _ t (blockMaps (grid0.coords t)).2.2.2.2.1 y)).symm

/-- A point's block of `dk`, as it leaves the run. -/
theorem dk_out (c : Dev nD) (t : Fin cfg0.N) (y : S1x2x96x768.Idx) : (outsAt0 m c t).2.1 y
    = (hd m c (bAt t) (hAt t (y 1))).DK scale (chunkOf (y 3)) (within (y 3)) (y 2) := by
  unfold outsAt0 out0_A_9
  dsimp only
  have hcover := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t)
  rw [View.read_writes_eq_canon _ _ _ hcover]
  have hy := hcover y
  rw [Pieces.dk_pieces] at hy ⊢
  refine View.canon_apply_of_pieces (fun y : S1x2x96x768.Idx => (hd m c (bAt t) (hAt t (y 1))).DK scale (chunkOf (y 3)) (within (y 3)) (y 2))
    _ (fun p hp x => ?_) y hy
  obtain ⟨j, ch, rfl⟩ := mem_stores _ _ hp
  refine (dk_stored (loads m c t j) ch x).trans ?_
  rw [read_unit (fun y : S1x2x96x768.Idx => (hd m c (bAt t) (hAt t (y 1))).DK scale (chunkOf (y 3)) (within (y 3)) (y 2)) _ _ _ x _
    (in_block (D := 96) j ch x), loads_head]
  exact congrArg₂ (fun a b => (hd m c (bAt t) (hAt t j)).DK scale a b (x 2)) (chunkOf_pos ch (x 3)).symm (within_pos ch (x 3)).symm

/-- What a point writes back of `dk` is its block of the array. -/
theorem dk_flushed (c : Dev nD) (t : Fin cfg0.N) :
    (dats m 0 c).flushed 9 t = (win0_9.blk t).view.read (Elt Ideal) (dkArr m c) := by
  show (cfg0.win 9).cut (grid0.coords t) ((dats m 0 c).after 9 t) = _
  rw [after0_9]
  funext y
  refine (dk_out m c t y).trans ?_
  exact (read_unit (dkArr m c) _ _ _ y _ (in_array (D := 96) _ t (blockMaps (grid0.coords t)).2.2.2.2.2.1 y)).symm

/-- A point's block of `dv`, as it leaves the run. -/
theorem dv_out (c : Dev nD) (t : Fin cfg0.N) (y : S1x2x192x768.Idx) : (outsAt0 m c t).2.2 y
    = (hd m c (bAt t) (hAt t (y 1))).DV scale (chunkOf (y 3)) (within (y 3)) (y 2) := by
  unfold outsAt0 out0_A_10
  dsimp only
  have hcover := cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t)
  rw [View.read_writes_eq_canon _ _ _ hcover]
  have hy := hcover y
  rw [Pieces.dv_pieces] at hy ⊢
  refine View.canon_apply_of_pieces (fun y : S1x2x192x768.Idx => (hd m c (bAt t) (hAt t (y 1))).DV scale (chunkOf (y 3)) (within (y 3)) (y 2))
    _ (fun p hp x => ?_) y hy
  obtain ⟨j, ch, rfl⟩ := mem_stores _ _ hp
  refine (dv_stored (loads m c t j) ch x).trans ?_
  rw [read_unit (fun y : S1x2x192x768.Idx => (hd m c (bAt t) (hAt t (y 1))).DV scale (chunkOf (y 3)) (within (y 3)) (y 2)) _ _ _ x _
    (in_block (D := 192) j ch x), loads_head]
  exact congrArg₂ (fun a b => (hd m c (bAt t) (hAt t j)).DV scale a b (x 2)) (chunkOf_pos ch (x 3)).symm (within_pos ch (x 3)).symm

/-- What a point writes back of `dv` is its block of the array. -/
theorem dv_flushed (c : Dev nD) (t : Fin cfg0.N) :
    (dats m 0 c).flushed 10 t = (win0_10.blk t).view.read (Elt Ideal) (dvArr m c) := by
  show (cfg0.win 10).cut (grid0.coords t) ((dats m 0 c).after 10 t) = _
  rw [after0_10]
  funext y
  refine (dv_out m c t y).trans ?_
  exact (read_unit (dvArr m c) _ _ _ y _ (in_array (D := 192) _ t (blockMaps (grid0.coords t)).2.2.2.2.2.2 y)).symm

/-! ### The blocks tile the arrays -/

theorem point_at : ∀ (b : Fin 2) (g : Fin 12), ∃ t : Fin cfg0.N, (grid0.coords t 0).val = b.val ∧ (grid0.coords t 1).val = g.val := by
  decide +kernel

/-- The point that writes an index: its batch entry and its pair of heads. -/
theorem point_of {D : Nat} (i : (⟨4, ![2, 24, D, 768]⟩ : Shape).Idx) :
    ∃ t : Fin cfg0.N, (grid0.coords t 0).val = (i 0).val ∧ (grid0.coords t 1).val = (i 1).val / 2 := by
  have h1 : (i 1).val < 24 := (i 1).isLt
  exact point_at (i 0) ⟨(i 1).val / 2, by omega⟩

theorem in_tile {D : Nat} (i : (⟨4, ![2, 24, D, 768]⟩ : Shape).Idx) (t : Fin cfg0.N)
    (ht : (grid0.coords t 0).val = (i 0).val ∧ (grid0.coords t 1).val = (i 1).val / 2) (f n : Fin 4 → Nat)
    (hf : f = ![(grid0.coords t 0).val, (grid0.coords t 1).val, 0, 0]) (hn : n = ![1, 2, D, 768]) (a : Fin 4) :
    f a * (![1, 2, D, 768] : Fin 4 → Nat) a ≤ (i a).val
      ∧ (i a).val < f a * (![1, 2, D, 768] : Fin 4 → Nat) a + n a := by
  subst hf hn
  obtain ⟨e0, e1⟩ := ht
  match a with
  | ⟨0, _⟩ =>
    show (grid0.coords t 0).val * 1 ≤ (i 0).val ∧ (i 0).val < (grid0.coords t 0).val * 1 + 1
    omega
  | ⟨1, _⟩ =>
    show (grid0.coords t 1).val * 2 ≤ (i 1).val ∧ (i 1).val < (grid0.coords t 1).val * 2 + 2
    omega
  | ⟨2, _⟩ =>
    have h : (i 2).val < D := (i 2).isLt
    show 0 * D ≤ (i 2).val ∧ (i 2).val < 0 * D + D
    omega
  | ⟨3, _⟩ =>
    have h : (i 3).val < 768 := (i 3).isLt
    show 0 * 768 ≤ (i 3).val ∧ (i 3).val < 0 * 768 + 768
    omega

theorem whole_tiles : ∀ i : grid0.Coords, win0_8.xsize i = ![1, 2, 96, 768] ∧ win0_9.xsize i = ![1, 2, 96, 768]
    ∧ win0_10.xsize i = ![1, 2, 192, 768] := by decide +kernel

theorem dq_cover (i : S2x24x96x768.Idx) : ∃ t : Fin cfg0.N, (cfg0.win 8).flush t = true ∧ i ∈ ((cfg0.win 8).blk t).view.set := by
  obtain ⟨t, ht⟩ := point_of i
  refine ⟨t, flush0_8 t, ?_⟩
  show i ∈ ((View.whole main_v8_0).slice (win0_8.rect t)).set
  rw [View.set_slice_whole, Rect.mem_set_unit]
  exact in_tile i t ht _ _ (blockMaps (grid0.coords t)).2.2.2.2.1 (whole_tiles (grid0.coords t)).1

/-- The array of `dq` after the run. -/
theorem dq_final (c : Dev nD) : Value.reg_main_v8_0 m c = dqArr m c :=
  (dats m 0 c).arrAt_eq_of_cover 8 (dqArr m c) (fun t _ => dq_flushed m c t) dq_cover

/-- The kernel's `dq`: the array turned back to positions first. -/
theorem dq_result (c : Dev nD) (i : S2x768x24x96.Idx) :
    transpose S2x768x24x96 [0, 3, 1, 2] (Value.reg_main_v8_0 m c) transposes_S2x24x96x768_S2x768x24x96_0_3_1_2 i
      = (hd m c (i 0) (i 2)).DQ scale (chunkOf (i 1)) (within (i 1)) (i 3) := by
  rw [dq_final]
  exact transpose_apply [0, 3, 1, 2] (dqArr m c) _ i (ix4 (i 0) (i 2) (i 3) (i 1)) fun a => match a with
    | ⟨0, _⟩ => rfl | ⟨1, _⟩ => rfl | ⟨2, _⟩ => rfl | ⟨3, _⟩ => rfl

theorem dk_cover (i : S2x24x96x768.Idx) : ∃ t : Fin cfg0.N, (cfg0.win 9).flush t = true ∧ i ∈ ((cfg0.win 9).blk t).view.set := by
  obtain ⟨t, ht⟩ := point_of i
  refine ⟨t, flush0_9 t, ?_⟩
  show i ∈ ((View.whole main_v8_1).slice (win0_9.rect t)).set
  rw [View.set_slice_whole, Rect.mem_set_unit]
  exact in_tile i t ht _ _ (blockMaps (grid0.coords t)).2.2.2.2.2.1 (whole_tiles (grid0.coords t)).2.1

/-- The array of `dk` after the run. -/
theorem dk_final (c : Dev nD) : Value.reg_main_v8_1 m c = dkArr m c :=
  (dats m 0 c).arrAt_eq_of_cover 9 (dkArr m c) (fun t _ => dk_flushed m c t) dk_cover

/-- The kernel's `dk`: the array turned back to positions first. -/
theorem dk_result (c : Dev nD) (i : S2x768x24x96.Idx) :
    transpose S2x768x24x96 [0, 3, 1, 2] (Value.reg_main_v8_1 m c) transposes_S2x24x96x768_S2x768x24x96_0_3_1_2 i
      = (hd m c (i 0) (i 2)).DK scale (chunkOf (i 1)) (within (i 1)) (i 3) := by
  rw [dk_final]
  exact transpose_apply [0, 3, 1, 2] (dkArr m c) _ i (ix4 (i 0) (i 2) (i 3) (i 1)) fun a => match a with
    | ⟨0, _⟩ => rfl | ⟨1, _⟩ => rfl | ⟨2, _⟩ => rfl | ⟨3, _⟩ => rfl

theorem dv_cover (i : S2x24x192x768.Idx) : ∃ t : Fin cfg0.N, (cfg0.win 10).flush t = true ∧ i ∈ ((cfg0.win 10).blk t).view.set := by
  obtain ⟨t, ht⟩ := point_of i
  refine ⟨t, flush0_10 t, ?_⟩
  show i ∈ ((View.whole main_v8_2).slice (win0_10.rect t)).set
  rw [View.set_slice_whole, Rect.mem_set_unit]
  exact in_tile i t ht _ _ (blockMaps (grid0.coords t)).2.2.2.2.2.2 (whole_tiles (grid0.coords t)).2.2

/-- The array of `dv` after the run. -/
theorem dv_final (c : Dev nD) : Value.reg_main_v8_2 m c = dvArr m c :=
  (dats m 0 c).arrAt_eq_of_cover 10 (dvArr m c) (fun t _ => dv_flushed m c t) dv_cover

/-- The kernel's `dv`: the array turned back to positions first. -/
theorem dv_result (c : Dev nD) (i : S2x768x24x192.Idx) :
    transpose S2x768x24x192 [0, 3, 1, 2] (Value.reg_main_v8_2 m c) transposes_S2x24x192x768_S2x768x24x192_0_3_1_2 i
      = (hd m c (i 0) (i 2)).DV scale (chunkOf (i 1)) (within (i 1)) (i 3) := by
  rw [dv_final]
  exact transpose_apply [0, 3, 1, 2] (dvArr m c) _ i (ix4 (i 0) (i 2) (i 3) (i 1)) fun a => match a with
    | ⟨0, _⟩ => rfl | ⟨1, _⟩ => rfl | ⟨2, _⟩ => rfl | ⟨3, _⟩ => rfl

end Cert.KernelValue

end
-- ==== Proof.Cumsum.lean ====
module

public import Idealize.ShloMosaic.Lib.ValueIdxCore
public import Idealize.ShloMosaic.PureOps.Ideal
public import Idealize.ShloMosaic.Lib.Pipeline.Value

@[expose] public section

/-!
# The running sum over the chunks

The reference writes its running sum as a sum over a sliding window of six chunks, padded with five zeros in front. Here
it is read at an index: the sum of the entries at the chunks up to that one.
-/

set_option maxRecDepth 16384

open Idealize.ShloMosaic
open Idealize.ShloMosaic.ValueIdx

noncomputable section

namespace Cert.Cumsum

/-- The five-axis shape of one state per chunk. -/
abbrev T : Shape := ⟨5, ![2, 24, 6, 96, 192]⟩

/-- The window: six chunks. -/
abbrev Win : Shape := ⟨5, ![1, 1, 6, 1, 1]⟩

/-- A position of the window is its chunk coordinate. -/
def winEquiv : Win.Idx ≃ Fin 6 where
  toFun j := j 2
  invFun k := ix5 0 0 k 0 0
  left_inv j := by
    rw [eq_ix5 j]
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv k := rfl

/-- A left fold of additions from zero is the sum. -/
theorem foldl_add_eq {n : Nat} (f : Fin n → EReal) :
    (List.finRange n).foldl (fun r i => r + f i) 0 = ∑ i, f i := by
  rw [← List.foldl_map (f := f) (g := fun r a => r + a), Fin.sum_univ_def, List.sum_eq_foldl]

/-- Six terms read from the far end of a padded window are the terms up to `c`. -/
theorem window_sum (f : Fin 6 → EReal) (c : Fin 6) :
    (∑ k : Fin 6, if h : 5 ≤ c.val + k.val then f ⟨c.val + k.val - 5, by omega⟩ else 0)
      = ∑ i : Fin 6, if i ≤ c then f i else 0 := by
  fin_cases c <;> simp [Fin.sum_univ_succ, Fin.le_def] <;> rfl

theorem cumsum_apply (x : T.Idx → EReal) (z : (⟨0, ![]⟩ : Shape).Idx → EReal) (hz : ∀ i, z i = 0)
    (h : T.ReduceWindows ![1, 1, 6, 1, 1] ![1, 1, 1, 1, 1] ![0, 0, 5, 0, 0] ![0, 0, 0, 0, 0] T)
    (hu : 0 < (⟨0, ![]⟩ : Shape).numel) (i : T.Idx) :
    Host.reduceWindowAdd (F := Ideal) (φ := .f32) ![1, 1, 6, 1, 1] ![1, 1, 1, 1, 1] ![0, 0, 5, 0, 0] ![0, 0, 0, 0, 0] x z h hu i
      = ∑ k : Fin 6, if k ≤ i 2 then x (ix5 (i 0) (i 1) k (i 3) (i 4)) else 0 := by
  unfold Host.reduceWindowAdd
  rw [Ideal.hostReduceWindowAdd_def, hz]
  unfold Ideal.hostReduceWindowAdd Host.reduceWindow
  dsimp only
  rw [foldl_add_eq]
  rw [← Equiv.sum_comp ((Win.rowMajor.symm.trans winEquiv).symm)]
  rw [← window_sum (fun k => x (ix5 (i 0) (i 1) k (i 3) (i 4))) (i 2)]
  refine Finset.sum_congr rfl fun k _ => ?_
  have hk : Win.rowMajor.symm ((Win.rowMajor.symm.trans winEquiv).symm k) = ix5 0 0 k 0 0 := by
    rw [Equiv.symm_trans_apply, Equiv.symm_symm, Equiv.symm_apply_apply]; rfl
  simp only [hk]
  by_cases hc : 5 ≤ (i 2).val + k.val
  · rw [dif_pos hc]
    rw [dif_pos]
    · congr 1
      funext a
      match a with
      | ⟨0, _⟩ => exact Fin.ext (by show (i 0).val * 1 + 0 - 0 = (i 0).val; omega)
      | ⟨1, _⟩ => exact Fin.ext (by show (i 1).val * 1 + 0 - 0 = (i 1).val; omega)
      | ⟨2, _⟩ => exact Fin.ext (by show (i 2).val * 1 + k.val - 5 = (i 2).val + k.val - 5; omega)
      | ⟨3, _⟩ => exact Fin.ext (by show (i 3).val * 1 + 0 - 0 = (i 3).val; omega)
      | ⟨4, _⟩ => exact Fin.ext (by show (i 4).val * 1 + 0 - 0 = (i 4).val; omega)
    · intro a
      have h0 : (i 0).val < 2 := (i 0).isLt
      have h1 : (i 1).val < 24 := (i 1).isLt
      have h2 : (i 2).val < 6 := (i 2).isLt
      have h3 : (i 3).val < 96 := (i 3).isLt
      have h4 : (i 4).val < 192 := (i 4).isLt
      have hk' := k.isLt
      match a with
      | ⟨0, _⟩ => show 0 ≤ (i 0).val * 1 + 0 ∧ (i 0).val * 1 + 0 - 0 < 2; omega
      | ⟨1, _⟩ => show 0 ≤ (i 1).val * 1 + 0 ∧ (i 1).val * 1 + 0 - 0 < 24; omega
      | ⟨2, _⟩ => show 5 ≤ (i 2).val * 1 + k.val ∧ (i 2).val * 1 + k.val - 5 < 6; omega
      | ⟨3, _⟩ => show 0 ≤ (i 3).val * 1 + 0 ∧ (i 3).val * 1 + 0 - 0 < 96; omega
      | ⟨4, _⟩ => show 0 ≤ (i 4).val * 1 + 0 ∧ (i 4).val * 1 + 0 - 0 < 192; omega
  · rw [dif_neg hc, dif_neg]
    intro hall
    have h2 : 5 ≤ (i 2).val * 1 + k.val := (hall 2).1
    omega

/-- Reversing the chunks. -/
theorem reverse_apply (x : T.Idx → EReal) (i : T.Idx) :
    Host.reverse (s := T) [2] x i = x (ix5 (i 0) (i 1) (Fin.rev (i 2 : Fin 6)) (i 3) (i 4)) := by
  unfold Host.reverse
  congr 1
  funext a
  match a with
  | ⟨0, _⟩ => exact if_neg (show ¬ (0 : Fin 5) ∈ [(2 : Fin 5)] by decide)
  | ⟨1, _⟩ => exact if_neg (show ¬ (1 : Fin 5) ∈ [(2 : Fin 5)] by decide)
  | ⟨2, _⟩ => exact if_pos (show (2 : Fin 5) ∈ [(2 : Fin 5)] by decide)
  | ⟨3, _⟩ => exact if_neg (show ¬ (3 : Fin 5) ∈ [(2 : Fin 5)] by decide)
  | ⟨4, _⟩ => exact if_neg (show ¬ (4 : Fin 5) ∈ [(2 : Fin 5)] by decide)

end Cert.Cumsum

end
-- ==== Proof.Reference.lean ====
module

public import proofs.«01_k».proof.Proof.Gen.ReferenceIdeal.Read
public import proofs.«01_k».proof.Proof.Spec
public import proofs.«01_k».proof.Proof.Cumsum

@[expose] public section

/-!
# The reference, read at an index

Every stage of the reference after its decoding region, at exact numbers, is the matching quantity of the head its first
two coordinates name.
-/

set_option maxRecDepth 16384

open Cert.ReferenceIdeal Cert.ReferenceIdeal.Gen Cert.ReferenceIdeal.Read Cert.Spec
open Idealize.ShloMosaic Idealize.ShloMosaic.ValueIdx

noncomputable section

namespace Cert.ReferenceValue

variable (r0 r1 : (⟨S2x768x24x96, .bf16⟩ : BufTy).Contents (Elt Ideal))
  (r2 r3 : (⟨S2x768x24x192, .bf16⟩ : BufTy).Contents (Elt Ideal))
  (x1 x3 x5 : (⟨S2x6x24, .f32⟩ : BufTy).Contents (Elt Ideal)) (x7 : (⟨S2x768x24, .f32⟩ : BufTy).Contents (Elt Ideal))

/-- The head the reference works on at batch `b` and head `h`. -/
abbrev hd (b : Fin 2) (h : Fin 24) : Head := headOf r0 x1 r1 x3 r2 x5 r3 x7 b h

/-! ### The operands by chunk and head -/

/-- An index into a `[2, 768, 24, n]` array, from its coordinates' values. -/
theorem idx4_eq {n : Nat} (j : (⟨4, ![2, 768, 24, n]⟩ : Shape).Idx) (b : Fin 2) (c : Fin 6) (t : Fin 128) (h : Fin 24)
    (d : Fin n) (h0 : (j 0).val = b.val) (h1 : (j 1).val = 128 * c.val + t.val) (h2 : (j 2).val = h.val)
    (h3 : (j 3).val = d.val) : j = ix4 b (pos c t) h d := by
  funext a
  match a with
  | ⟨0, _⟩ => exact Fin.ext h0
  | ⟨1, _⟩ => exact Fin.ext h1
  | ⟨2, _⟩ => exact Fin.ext h2
  | ⟨3, _⟩ => exact Fin.ext h3

theorem split_narrow (b c t h d : Nat) (hb : b < 2) (hc : c < 6) (ht : t < 128) (hh : h < 24) (hd : d < 96) :
    ((((b * 6 + c) * 128 + t) * 24 + h) * 96 + d) / 1769472 = b
      ∧ ((((b * 6 + c) * 128 + t) * 24 + h) * 96 + d) / 2304 % 768 = 128 * c + t
      ∧ ((((b * 6 + c) * 128 + t) * 24 + h) * 96 + d) / 96 % 24 = h
      ∧ ((((b * 6 + c) * 128 + t) * 24 + h) * 96 + d) % 96 = d := by
  refine ⟨?_, ?_, ?_, ?_⟩ <;> omega

theorem split_wide (b c t h d : Nat) (hb : b < 2) (hc : c < 6) (ht : t < 128) (hh : h < 24) (hd : d < 192) :
    ((((b * 6 + c) * 128 + t) * 24 + h) * 192 + d) / 3538944 = b
      ∧ ((((b * 6 + c) * 128 + t) * 24 + h) * 192 + d) / 4608 % 768 = 128 * c + t
      ∧ ((((b * 6 + c) * 128 + t) * 24 + h) * 192 + d) / 192 % 24 = h
      ∧ ((((b * 6 + c) * 128 + t) * 24 + h) * 192 + d) % 192 = d := by
  refine ⟨?_, ?_, ?_, ?_⟩ <;> omega

theorem split_pos (b c t h : Nat) (hb : b < 2) (hc : c < 6) (ht : t < 128) (hh : h < 24) :
    (((b * 6 + c) * 128 + t) * 24 + h) / 18432 = b
      ∧ (((b * 6 + c) * 128 + t) * 24 + h) / 24 % 768 = 128 * c + t
      ∧ (((b * 6 + c) * 128 + t) * 24 + h) % 24 = h := by
  refine ⟨?_, ?_, ?_⟩ <;> omega

theorem v2_at (i : S2x24x6x128x96.Idx) : val_main_v2 r0 i = r0 (ix4 (i 0) (pos (i 2) (i 3)) (i 1) (i 4)) := by
  rw [val_main_v2_apply, val_main_v1_apply]
  have hs := split_narrow (i 0).val (i 2).val (i 3).val (i 1).val (i 4).val (i 0).isLt (i 2).isLt (i 3).isLt (i 1).isLt (i 4).isLt
  exact congrArg r0 (idx4_eq _ _ _ _ _ _ hs.1 hs.2.1 hs.2.2.1 hs.2.2.2)

theorem v4_at (i : S2x24x6x128x96.Idx) : val_main_v4 r1 i = r1 (ix4 (i 0) (pos (i 2) (i 3)) (i 1) (i 4)) := v2_at r1 i

theorem v6_at (i : S2x24x6x128x192.Idx) : val_main_v6 r2 i = r2 (ix4 (i 0) (pos (i 2) (i 3)) (i 1) (i 4)) := by
  rw [val_main_v6_apply, val_main_v5_apply]
  have hs := split_wide (i 0).val (i 2).val (i 3).val (i 1).val (i 4).val (i 0).isLt (i 2).isLt (i 3).isLt (i 1).isLt (i 4).isLt
  exact congrArg r2 (idx4_eq _ _ _ _ _ _ hs.1 hs.2.1 hs.2.2.1 hs.2.2.2)

theorem v8_at (i : S2x24x6x128x192.Idx) : val_main_v8 r3 i = r3 (ix4 (i 0) (pos (i 2) (i 3)) (i 1) (i 4)) := v6_at r3 i

theorem v9_at (i : S2x24x6.Idx) : val_main_v9 x1 i = x1 (ix3 (i 0) (i 2) (i 1)) := by
  rw [val_main_v9_apply]
  exact congrArg x1 (eq_ix3 _)

theorem v10_at (i : S2x24x6.Idx) : val_main_v10 x3 i = x3 (ix3 (i 0) (i 2) (i 1)) := v9_at x3 i

theorem v11_at (i : S2x24x6.Idx) : val_main_v11 x5 i = x5 (ix3 (i 0) (i 2) (i 1)) := v9_at x5 i

theorem v13_at (i : S2x24x6x128.Idx) : val_main_v13 x7 i = x7 (ix3 (i 0) (pos (i 2) (i 3)) (i 1)) := by
  rw [val_main_v13_apply, val_main_v12_apply]
  have hs := split_pos (i 0).val (i 2).val (i 3).val (i 1).val (i 0).isLt (i 2).isLt (i 3).isLt (i 1).isLt
  refine congrArg x7 (funext fun a => ?_)
  match a with
  | ⟨0, _⟩ => exact Fin.ext hs.1
  | ⟨1, _⟩ => exact Fin.ext hs.2.1
  | ⟨2, _⟩ => exact Fin.ext hs.2.2

/-! ### The scaled operands -/

theorem q_at (i : S2x24x6x128x96.Idx) : val_main_v17 x1 r0 i
    = (hd r0 r1 r2 r3 x1 x3 x5 x7 (i 0) (i 1)).q (i 2) (i 3) (i 4) * (hd r0 r1 r2 r3 x1 x3 x5 x7 (i 0) (i 1)).qs (i 2) := by
  rw [val_main_v17_apply, val_main_v16_apply, val_main_v15_apply, val_main_v14_apply, v9_at, v2_at]
  rfl

theorem k_at (i : S2x24x6x128x96.Idx) : val_main_v21 x3 r1 i
    = (hd r0 r1 r2 r3 x1 x3 x5 x7 (i 0) (i 1)).k (i 2) (i 3) (i 4) * (hd r0 r1 r2 r3 x1 x3 x5 x7 (i 0) (i 1)).ks (i 2) := by
  rw [val_main_v21_apply, val_main_v20_apply, val_main_v19_apply, val_main_v18_apply, v10_at, v4_at]
  rfl

theorem v_at (i : S2x24x6x128x192.Idx) : val_main_v25 x5 r2 i
    = (hd r0 r1 r2 r3 x1 x3 x5 x7 (i 0) (i 1)).v (i 2) (i 3) (i 4) * (hd r0 r1 r2 r3 x1 x3 x5 x7 (i 0) (i 1)).vs (i 2) := by
  rw [val_main_v25_apply, val_main_v24_apply, val_main_v23_apply, val_main_v22_apply, v11_at, v6_at]
  rfl

theorem g_at (i : S2x24x6x128x192.Idx) : val_main_v29 x7 r3 i
    = (hd r0 r1 r2 r3 x1 x3 x5 x7 (i 0) (i 1)).g (i 2) (i 3) (i 4) * (hd r0 r1 r2 r3 x1 x3 x5 x7 (i 0) (i 1)).gs (i 2) (i 3) := by
  rw [val_main_v29_apply, val_main_v28_apply, val_main_v27_apply, val_main_v26_apply, v13_at, v8_at]
  rfl

/-! ### The states -/

theorem u_at (i : S2x24x6x96x192.Idx) : val_main_v34 x3 x5 r1 r2 i
    = (hd r0 r1 r2 r3 x1 x3 x5 x7 (i 0) (i 1)).U (i 2) (i 3) (i 4) := by
  rw [val_main_v34_apply, val_main_v33_apply, val_main_v32_apply, val_main_v31_apply, v10_at, v11_at, val_main_v30_apply]
  simp only [v4_at, v6_at]
  rfl

theorem w_at (i : S2x24x6x96x192.Idx) : val_main_v35 x1 x7 r0 r3 i
    = (hd r0 r1 r2 r3 x1 x3 x5 x7 (i 0) (i 1)).W (i 2) (i 3) (i 4) := by
  rw [val_main_v35_apply]
  simp only [q_at r0 r1 r2 r3 x1 x3 x5 x7, g_at r0 r1 r2 r3 x1 x3 x5 x7]
  rfl

theorem zero_bits : (FloatOps.ofBits .f32 0x00000000#32 : Ideal .f32) = 0 := by
  rw [Ideal.ofBits_def]; simp [Ideal.ofBits, Ideal.ieee]

theorem v37_at (i : S2x24x1x96x192.Idx) : val_main_v37 (F := Ideal) i = 0 := by
  rw [val_main_v37_apply, val_main_cst_apply]; exact zero_bits

theorem init0_at (i : S_.Idx) : val_main_call0_call0_v0 (F := Ideal) i = 0 := by
  rw [val_main_call0_call0_v0_apply, val_main_call0_call0_cst_apply]; exact zero_bits

theorem init2_at (i : S_.Idx) : val_main_call2_call0_v0 (F := Ideal) i = 0 := by
  rw [val_main_call2_call0_v0_apply, val_main_call2_call0_cst_apply]; exact zero_bits

theorem v38_at (i : S2x24x6x96x192.Idx) : val_main_v38 x3 x5 r1 r2 i
    = ∑ k : Fin 6, if k ≤ i 2 then (hd r0 r1 r2 r3 x1 x3 x5 x7 (i 0) (i 1)).U k (i 3) (i 4) else 0 := by
  unfold val_main_v38
  rw [Cumsum.cumsum_apply _ _ init0_at]
  simp only [u_at r0 r1 r2 r3 x1 x3 x5 x7]

theorem s_at (i : S2x24x6x96x192.Idx) : val_main_v41 x3 x5 r1 r2 i
    = (hd r0 r1 r2 r3 x1 x3 x5 x7 (i 0) (i 1)).S (i 2) (i 3) (i 4) := by
  rw [val_main_v41_apply]
  show val_main_v40 x3 x5 r1 r2 i = _
  unfold val_main_v40
  have hi : (i 2).val < 6 := (i 2).isLt
  by_cases hc : (i 2).val = 0
  · rw [concatenate_pair_apply_left 2 _ _ concatenates_S2x24x1x96x192_S2x24x5x96x192_S2x24x6x96x192_d2 i rfl
      (ix5 (i 0) (i 1) 0 (i 3) (i 4)) (fun b => match b with
        | ⟨0, _⟩ => rfl | ⟨1, _⟩ => rfl | ⟨2, _⟩ => hc.symm | ⟨3, _⟩ => rfl | ⟨4, _⟩ => rfl), v37_at]
    unfold Head.S
    refine (Finset.sum_eq_zero fun k _ => if_neg ?_).symm
    show ¬ k.val < (i 2).val
    omega
  · rw [concatenate_pair_apply_right 2 _ _ concatenates_S2x24x1x96x192_S2x24x5x96x192_S2x24x6x96x192_d2 i rfl rfl
      (ix5 (i 0) (i 1) ⟨(i 2).val - 1, by omega⟩ (i 3) (i 4)) (fun b => match b with
        | ⟨0, _⟩ => fun _ => rfl | ⟨1, _⟩ => fun _ => rfl | ⟨2, _⟩ => fun h => absurd rfl h
        | ⟨3, _⟩ => fun _ => rfl | ⟨4, _⟩ => fun _ => rfl) (by show (i 2).val - 1 + 1 = (i 2).val; omega),
      val_main_v39_apply, v38_at r0 r1 r2 r3 x1 x3 x5 x7]
    unfold Head.S
    refine Finset.sum_congr rfl fun k _ => if_congr ?_ rfl rfl
    show k.val ≤ (i 2).val - 1 ↔ k.val < (i 2).val
    omega

theorem v43_at (i : S2x24x6x96x192.Idx) : val_main_v43 x1 x7 r0 r3 i
    = ∑ k : Fin 6, if k ≤ i 2 then (hd r0 r1 r2 r3 x1 x3 x5 x7 (i 0) (i 1)).W (Fin.rev k) (i 3) (i 4) else 0 := by
  unfold val_main_v43
  rw [Cumsum.cumsum_apply _ _ init2_at]
  unfold val_main_v42
  refine Finset.sum_congr rfl fun k _ => congrArg (fun z => if k ≤ i 2 then z else 0) ?_
  exact (Cumsum.reverse_apply _ _).trans (w_at r0 r1 r2 r3 x1 x3 x5 x7 _)

theorem v44_at (i : S2x24x6x96x192.Idx) : val_main_v44 x1 x7 r0 r3 i
    = ∑ k : Fin 6, if i 2 ≤ k then (hd r0 r1 r2 r3 x1 x3 x5 x7 (i 0) (i 1)).W k (i 3) (i 4) else 0 := by
  unfold val_main_v44
  rw [Cumsum.reverse_apply, v43_at r0 r1 r2 r3 x1 x3 x5 x7, ← Equiv.sum_comp Fin.revPerm]
  refine Finset.sum_congr rfl fun k _ => ?_
  rw [Fin.revPerm_apply, Fin.rev_rev]
  exact if_congr Fin.rev_le_rev rfl rfl

theorem d_at (i : S2x24x6x96x192.Idx) : val_main_v47 x1 x7 r0 r3 i
    = (hd r0 r1 r2 r3 x1 x3 x5 x7 (i 0) (i 1)).D (i 2) (i 3) (i 4) := by
  rw [val_main_v47_apply]
  show val_main_v46 x1 x7 r0 r3 i = _
  unfold val_main_v46
  have hi : (i 2).val < 6 := (i 2).isLt
  by_cases hc : (i 2).val = 5
  · rw [concatenate_pair_apply_right 2 _ _ concatenates_S2x24x5x96x192_S2x24x1x96x192_S2x24x6x96x192_d2 i rfl rfl
      (ix5 (i 0) (i 1) 0 (i 3) (i 4)) (fun b => match b with
        | ⟨0, _⟩ => fun _ => rfl | ⟨1, _⟩ => fun _ => rfl | ⟨2, _⟩ => fun h => absurd rfl h
        | ⟨3, _⟩ => fun _ => rfl | ⟨4, _⟩ => fun _ => rfl) (by show 0 + 5 = (i 2).val; omega), v37_at]
    unfold Head.D
    refine (Finset.sum_eq_zero fun k _ => if_neg ?_).symm
    show ¬ (i 2).val < k.val
    omega
  · rw [concatenate_pair_apply_left 2 _ _ concatenates_S2x24x5x96x192_S2x24x1x96x192_S2x24x6x96x192_d2 i rfl
      (ix5 (i 0) (i 1) ⟨(i 2).val, by omega⟩ (i 3) (i 4)) (fun b => match b with
        | ⟨0, _⟩ => rfl | ⟨1, _⟩ => rfl | ⟨2, _⟩ => rfl | ⟨3, _⟩ => rfl | ⟨4, _⟩ => rfl),
      val_main_v45_apply, v44_at r0 r1 r2 r3 x1 x3 x5 x7]
    unfold Head.D
    refine Finset.sum_congr rfl fun k _ => if_congr ?_ rfl rfl
    show 1 + (i 2).val ≤ k.val ↔ (i 2).val < k.val
    omega

/-! ### The causal matrices -/

theorem mask_at (i : S128x128.Idx) : val_main_v49 (F := Ideal) i = BitVec.ofBool (decide ((i 1).val ≤ (i 0).val)) := by
  have h0 : (i 0).val < 128 := (i 0).isLt
  have h1 : (i 1).val < 128 := (i 1).isLt
  rw [val_main_v49_apply, val_main_call4_v4_apply, val_main_call4_v2_apply, val_main_call4_v0_apply,
    val_main_call4_v1_apply, val_main_call4_c_apply, val_main_call4_v3_apply, val_main_v48_apply, val_main_c_apply,
    val_main_call4_v5_apply, val_main_call4_c_0_apply]
  unfold IntOp.cmpi IntOp.addi Scalar.select
  rw [BitVec.add_zero]
  dsimp only
  rw [sle_ofNat _ _ h1 h0]
  by_cases h : (i 1).val ≤ (i 0).val <;> simp [h]

theorem a_at (i : S2x24x6x128x128.Idx) : val_main_v58 x5 x7 r2 r3 i
    = (hd r0 r1 r2 r3 x1 x3 x5 x7 (i 0) (i 1)).A (i 2) (i 3) (i 4) := by
  rw [val_main_v58_apply, val_main_v57_apply, val_main_call5_v1_apply, mask_at, val_main_v56_apply, val_main_v53_apply,
    val_main_v55_apply, val_main_v54_apply, v11_at, val_main_v52_apply, val_main_v51_apply, v13_at, val_main_v50_apply,
    val_main_call5_v2_apply, val_main_call5_v0_apply, val_main_cst_0_apply, zero_bits]
  simp only [v8_at, v6_at]
  unfold Head.A Scalar.select
  refine if_congr ?_ rfl rfl
  show BitVec.ofBool (decide ((i 4).val ≤ (i 3).val)) = 1 ↔ (i 4).val ≤ (i 3).val
  by_cases h : (i 4).val ≤ (i 3).val <;> simp [h]

theorem p_at (i : S2x24x6x128x128.Idx) : val_main_v65 x1 x3 r0 r1 i
    = (hd r0 r1 r2 r3 x1 x3 x5 x7 (i 0) (i 1)).P (i 2) (i 3) (i 4) := by
  rw [val_main_v65_apply, val_main_v64_apply, val_main_call6_v1_apply, mask_at, val_main_v63_apply, val_main_v62_apply,
    val_main_v61_apply, val_main_v60_apply, v9_at, v10_at, val_main_v59_apply,
    val_main_call6_v2_apply, val_main_call6_v0_apply, val_main_cst_1_apply, zero_bits]
  simp only [v2_at, v4_at]
  unfold Head.P Scalar.select
  refine if_congr ?_ rfl rfl
  show BitVec.ofBool (decide ((i 4).val ≤ (i 3).val)) = 1 ↔ (i 4).val ≤ (i 3).val
  by_cases h : (i 4).val ≤ (i 3).val <;> simp [h]

/-! ### The results -/

theorem dq_head (i : S2x24x6x128x96.Idx) : val_main_v77 x3 x5 x7 r1 r2 r3 i
    = (hd r0 r1 r2 r3 x1 x3 x5 x7 (i 0) (i 1)).DQ scale (i 2) (i 3) (i 4) := by
  rw [val_main_v77_apply, val_main_v76_apply, val_main_v75_apply, val_main_cst_2_apply, val_main_v68_apply,
    val_main_v66_apply, val_main_v67_apply]
  simp only [g_at r0 r1 r2 r3 x1 x3 x5 x7, s_at r0 r1 r2 r3 x1 x3 x5 x7, a_at r0 r1 r2 r3 x1 x3 x5 x7, k_at r0 r1 r2 r3 x1 x3 x5 x7]
  rfl

theorem dk_head (i : S2x24x6x128x96.Idx) : val_main_v82 x1 x5 x7 r0 r2 r3 i
    = (hd r0 r1 r2 r3 x1 x3 x5 x7 (i 0) (i 1)).DK scale (i 2) (i 3) (i 4) := by
  rw [val_main_v82_apply, val_main_v81_apply, val_main_v80_apply, val_main_cst_3_apply, val_main_v71_apply,
    val_main_v69_apply, val_main_v70_apply]
  simp only [v_at r0 r1 r2 r3 x1 x3 x5 x7, d_at r0 r1 r2 r3 x1 x3 x5 x7, a_at r0 r1 r2 r3 x1 x3 x5 x7, q_at r0 r1 r2 r3 x1 x3 x5 x7]
  rfl

theorem dv_head (i : S2x24x6x128x192.Idx) : val_main_v87 x1 x3 x7 r0 r1 r3 i
    = (hd r0 r1 r2 r3 x1 x3 x5 x7 (i 0) (i 1)).DV scale (i 2) (i 3) (i 4) := by
  rw [val_main_v87_apply, val_main_v86_apply, val_main_v85_apply, val_main_cst_4_apply, val_main_v74_apply,
    val_main_v72_apply, val_main_v73_apply]
  simp only [k_at r0 r1 r2 r3 x1 x3 x5 x7, d_at r0 r1 r2 r3 x1 x3 x5 x7, p_at r0 r1 r2 r3 x1 x3 x5 x7, g_at r0 r1 r2 r3 x1 x3 x5 x7]
  rfl

theorem join_narrow (b p h d : Nat) (hb : b < 2) (hp : p < 768) (hh : h < 24) (hd : d < 96) :
    (((b * 768 + p) * 24 + h) * 96 + d) / 1769472 = b ∧ (((b * 768 + p) * 24 + h) * 96 + d) / 294912 % 6 = p / 128
      ∧ (((b * 768 + p) * 24 + h) * 96 + d) / 2304 % 128 = p % 128 ∧ (((b * 768 + p) * 24 + h) * 96 + d) / 96 % 24 = h
      ∧ (((b * 768 + p) * 24 + h) * 96 + d) % 96 = d := by
  refine ⟨?_, ?_, ?_, ?_, ?_⟩ <;> omega

theorem join_wide (b p h d : Nat) (hb : b < 2) (hp : p < 768) (hh : h < 24) (hd : d < 192) :
    (((b * 768 + p) * 24 + h) * 192 + d) / 3538944 = b ∧ (((b * 768 + p) * 24 + h) * 192 + d) / 589824 % 6 = p / 128
      ∧ (((b * 768 + p) * 24 + h) * 192 + d) / 4608 % 128 = p % 128 ∧ (((b * 768 + p) * 24 + h) * 192 + d) / 192 % 24 = h
      ∧ (((b * 768 + p) * 24 + h) * 192 + d) % 192 = d := by
  refine ⟨?_, ?_, ?_, ?_, ?_⟩ <;> omega

theorem dq_at (i : S2x768x24x96.Idx) : val_main_v79 x3 x5 x7 r1 r2 r3 i
    = (hd r0 r1 r2 r3 x1 x3 x5 x7 (i 0) (i 2)).DQ scale (chunkOf (i 1)) (within (i 1)) (i 3) := by
  have hj := join_narrow (i 0).val (i 1).val (i 2).val (i 3).val (i 0).isLt (i 1).isLt (i 2).isLt (i 3).isLt
  rw [val_main_v79_apply, val_main_v78_apply, dq_head r0 r1 r2 r3 x1 x3 x5 x7]
  congr 1
  · exact congrArg₂ (hd r0 r1 r2 r3 x1 x3 x5 x7) (Fin.ext hj.1) (Fin.ext hj.2.2.2.1)
  · exact Fin.ext hj.2.1
  · exact Fin.ext hj.2.2.1
  · exact Fin.ext hj.2.2.2.2

theorem dk_at (i : S2x768x24x96.Idx) : val_main_v84 x1 x5 x7 r0 r2 r3 i
    = (hd r0 r1 r2 r3 x1 x3 x5 x7 (i 0) (i 2)).DK scale (chunkOf (i 1)) (within (i 1)) (i 3) := by
  have hj := join_narrow (i 0).val (i 1).val (i 2).val (i 3).val (i 0).isLt (i 1).isLt (i 2).isLt (i 3).isLt
  rw [val_main_v84_apply, val_main_v83_apply, dk_head r0 r1 r2 r3 x1 x3 x5 x7]
  congr 1
  · exact congrArg₂ (hd r0 r1 r2 r3 x1 x3 x5 x7) (Fin.ext hj.1) (Fin.ext hj.2.2.2.1)
  · exact Fin.ext hj.2.1
  · exact Fin.ext hj.2.2.1
  · exact Fin.ext hj.2.2.2.2

theorem dv_at (i : S2x768x24x192.Idx) : val_main_v89 x1 x3 x7 r0 r1 r3 i
    = (hd r0 r1 r2 r3 x1 x3 x5 x7 (i 0) (i 2)).DV scale (chunkOf (i 1)) (within (i 1)) (i 3) := by
  have hj := join_wide (i 0).val (i 1).val (i 2).val (i 3).val (i 0).isLt (i 1).isLt (i 2).isLt (i 3).isLt
  rw [val_main_v89_apply, val_main_v88_apply, dv_head r0 r1 r2 r3 x1 x3 x5 x7]
  congr 1
  · exact congrArg₂ (hd r0 r1 r2 r3 x1 x3 x5 x7) (Fin.ext hj.1) (Fin.ext hj.2.2.2.1)
  · exact Fin.ext hj.2.1
  · exact Fin.ext hj.2.2.1
  · exact Fin.ext hj.2.2.2.2

end Cert.ReferenceValue

end
-- ==== Proof.Decode.lean ====
module

public import proofs.«01_k».proof.Proof.Gen.ReferenceIdeal.Run
public import proofs.«01_k».proof.Proof.Spec
public import Idealize.ShloMosaic.Lib.Pipeline.Value

@[expose] public section

/-!
# The reference's decoded codes

The reference's one region turns the four arrays of fp8 codes into bf16 numbers. The ideal instance's casts change
nothing, so each array it leaves is the argument it was given.
-/

set_option maxRecDepth 16384

open Cert.ReferenceIdeal Cert.ReferenceIdeal.Gen
open Idealize.ShloMosaic Idealize.ShloMosaic.TcCoe Idealize.SL.Sem Idealize.ShloMosaic.StableHlo Idealize.ShloMosaic.Pipeline

noncomputable section

namespace Cert.Decode

theorem hz : (![0, 0, 0, 0] : Fin 4 → Nat) = fun _ => 0 := funext fun a => by fin_cases a <;> rfl

/-- The one block of an array starts at its origin. -/
theorem in_whole {S : Shape} (f n : Fin 4 → Nat) (hf : ∀ a, f a = 0) (hS : S.rank = 4) (hn : ∀ a, n a = S.size (Fin.cast hS.symm a))
    (i : S.Idx) (a : Fin 4) : f a * n a ≤ (i (Fin.cast hS.symm a)).val ∧ (i (Fin.cast hS.symm a)).val < f a * n a + n a := by
  have h : (i (Fin.cast hS.symm a)).val < S.size (Fin.cast hS.symm a) := (i (Fin.cast hS.symm a)).isLt
  rw [hf a, hn a]
  omega

theorem point (t : Fin cfg0.N) : t = t0_0 := fin_N0 t

variable (m : (ℓ : Loc nD τ sig) → Buf (Elt Ideal) ℓ)

/-- Argument `q`, as numbers. -/
def qCodes (c : Dev nD) : S2x768x24x96.Idx → EReal := m ((c.tc : Thread nD τ).loc main_arg0)

theorem q_flushed (c : Dev nD) (t : Fin cfg0.N) :
    (dats m 0 c).flushed 4 t = (win0_4.blk t).view.read (Elt Ideal) (qCodes m c) := by
  show (cfg0.win 4).cut (grid0.coords t) ((dats m 0 c).after 4 t) = _
  rw [after0_4]
  unfold out0_4
  rw [View.canon_unit_zero hz, View.ld_unit_zero hz]
  rfl

theorem q_cover (i : S2x768x24x96.Idx) : ∃ t : Fin cfg0.N, (cfg0.win 4).flush t = true ∧ i ∈ ((cfg0.win 4).blk t).view.set := by
  refine ⟨t0_0, flush0_4 _, ?_⟩
  show i ∈ ((View.whole main_v0_0).slice (win0_4.rect t0_0)).set
  rw [View.set_slice_whole, Rect.mem_set_unit]
  exact in_whole (S := S2x768x24x96) _ _ (by decide +kernel) rfl (by decide +kernel) i

/-- The region leaves `q`'s codes. -/
theorem q_final (c : Dev nD) : Value.reg_main_v0_0 m c = qCodes m c :=
  (dats m 0 c).arrAt_eq_of_cover 4 (qCodes m c) (fun t _ => q_flushed m c t) q_cover

/-- Argument `k`, as numbers. -/
def kCodes (c : Dev nD) : S2x768x24x96.Idx → EReal := m ((c.tc : Thread nD τ).loc main_arg2)

theorem k_flushed (c : Dev nD) (t : Fin cfg0.N) :
    (dats m 0 c).flushed 5 t = (win0_5.blk t).view.read (Elt Ideal) (kCodes m c) := by
  show (cfg0.win 5).cut (grid0.coords t) ((dats m 0 c).after 5 t) = _
  rw [after0_5]
  unfold out0_5
  rw [View.canon_unit_zero hz, View.ld_unit_zero hz]
  rfl

theorem k_cover (i : S2x768x24x96.Idx) : ∃ t : Fin cfg0.N, (cfg0.win 5).flush t = true ∧ i ∈ ((cfg0.win 5).blk t).view.set := by
  refine ⟨t0_0, flush0_5 _, ?_⟩
  show i ∈ ((View.whole main_v0_1).slice (win0_5.rect t0_0)).set
  rw [View.set_slice_whole, Rect.mem_set_unit]
  exact in_whole (S := S2x768x24x96) _ _ (by decide +kernel) rfl (by decide +kernel) i

/-- The region leaves `k`'s codes. -/
theorem k_final (c : Dev nD) : Value.reg_main_v0_1 m c = kCodes m c :=
  (dats m 0 c).arrAt_eq_of_cover 5 (kCodes m c) (fun t _ => k_flushed m c t) k_cover

/-- Argument `v`, as numbers. -/
def vCodes (c : Dev nD) : S2x768x24x192.Idx → EReal := m ((c.tc : Thread nD τ).loc main_arg4)

theorem v_flushed (c : Dev nD) (t : Fin cfg0.N) :
    (dats m 0 c).flushed 6 t = (win0_6.blk t).view.read (Elt Ideal) (vCodes m c) := by
  show (cfg0.win 6).cut (grid0.coords t) ((dats m 0 c).after 6 t) = _
  rw [after0_6]
  unfold out0_6
  rw [View.canon_unit_zero hz, View.ld_unit_zero hz]
  rfl

theorem v_cover (i : S2x768x24x192.Idx) : ∃ t : Fin cfg0.N, (cfg0.win 6).flush t = true ∧ i ∈ ((cfg0.win 6).blk t).view.set := by
  refine ⟨t0_0, flush0_6 _, ?_⟩
  show i ∈ ((View.whole main_v0_2).slice (win0_6.rect t0_0)).set
  rw [View.set_slice_whole, Rect.mem_set_unit]
  exact in_whole (S := S2x768x24x192) _ _ (by decide +kernel) rfl (by decide +kernel) i

/-- The region leaves `v`'s codes. -/
theorem v_final (c : Dev nD) : Value.reg_main_v0_2 m c = vCodes m c :=
  (dats m 0 c).arrAt_eq_of_cover 6 (vCodes m c) (fun t _ => v_flushed m c t) v_cover

/-- Argument `do`, as numbers. -/
def doCodes (c : Dev nD) : S2x768x24x192.Idx → EReal := m ((c.tc : Thread nD τ).loc main_arg6)

theorem do_flushed (c : Dev nD) (t : Fin cfg0.N) :
    (dats m 0 c).flushed 7 t = (win0_7.blk t).view.read (Elt Ideal) (doCodes m c) := by
  show (cfg0.win 7).cut (grid0.coords t) ((dats m 0 c).after 7 t) = _
  rw [after0_7]
  unfold out0_7
  rw [View.canon_unit_zero hz, View.ld_unit_zero hz]
  rfl

theorem do_cover (i : S2x768x24x192.Idx) : ∃ t : Fin cfg0.N, (cfg0.win 7).flush t = true ∧ i ∈ ((cfg0.win 7).blk t).view.set := by
  refine ⟨t0_0, flush0_7 _, ?_⟩
  show i ∈ ((View.whole main_v0_3).slice (win0_7.rect t0_0)).set
  rw [View.set_slice_whole, Rect.mem_set_unit]
  exact in_whole (S := S2x768x24x192) _ _ (by decide +kernel) rfl (by decide +kernel) i

/-- The region leaves `do`'s codes. -/
theorem do_final (c : Dev nD) : Value.reg_main_v0_3 m c = doCodes m c :=
  (dats m 0 c).arrAt_eq_of_cover 7 (doCodes m c) (fun t _ => do_flushed m c t) do_cover

end Cert.Decode

end
-- ==== Proof.ReferenceResult.lean ====
module

public import proofs.«01_k».proof.Proof.Reference
public import proofs.«01_k».proof.Proof.Decode

@[expose] public section

/-!
# The reference's results over its arguments

The later operations read the decoded codes and the scales at the region's exit; both are the arguments.
-/

set_option maxRecDepth 16384

open Cert.ReferenceIdeal Cert.ReferenceIdeal.Gen Cert.ReferenceIdeal.Value Cert.ReferenceIdeal.Read Cert.Spec
open Idealize.ShloMosaic Idealize.ShloMosaic.TcCoe Idealize.SL.Sem Idealize.ShloMosaic.StableHlo Idealize.ShloMosaic.Pipeline
open Idealize.ShloMosaic.ValueIdx

noncomputable section

namespace Cert.ReferenceResult

variable (m : (ℓ : Loc nD τ sig) → Buf (Elt Ideal) ℓ)

/-- Head `h` of batch entry `b`, out of the reference's arguments. -/
def hd (c : Dev nD) (b : Fin 2) (h : Fin 24) : Head :=
  headOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) b h

theorem dq_result (c : Dev nD) (i : S2x768x24x96.Idx) :
    val_main_v79 (F := Ideal) (exitV m c (Proc.devRef .tc main_arg3)) (exitV m c (Proc.devRef .tc main_arg5)) (exitV m c (Proc.devRef .tc main_arg7)) (exitV m c (Proc.devRef .tc main_v0_1)) (exitV m c (Proc.devRef .tc main_v0_2)) (exitV m c (Proc.devRef .tc main_v0_3)) i
      = (hd m c (i 0) (i 2)).DQ scale (chunkOf (i 1)) (within (i 1)) (i 3) := by
  rw [exit_main_arg3, exit_main_arg5, exit_main_arg7, exit_main_v0_1, exit_main_v0_2, exit_main_v0_3, Decode.k_final, Decode.v_final, Decode.do_final]
  exact ReferenceValue.dq_at (Decode.qCodes m c) (Decode.kCodes m c) (Decode.vCodes m c) (Decode.doCodes m c)
    (m ((c.tc : Thread nD τ).loc main_arg1)) (m ((c.tc : Thread nD τ).loc main_arg3)) (m ((c.tc : Thread nD τ).loc main_arg5))
    (m ((c.tc : Thread nD τ).loc main_arg7)) i

theorem dk_result (c : Dev nD) (i : S2x768x24x96.Idx) :
    val_main_v84 (F := Ideal) (exitV m c (Proc.devRef .tc main_arg1)) (exitV m c (Proc.devRef .tc main_arg5)) (exitV m c (Proc.devRef .tc main_arg7)) (exitV m c (Proc.devRef .tc main_v0_0)) (exitV m c (Proc.devRef .tc main_v0_2)) (exitV m c (Proc.devRef .tc main_v0_3)) i
      = (hd m c (i 0) (i 2)).DK scale (chunkOf (i 1)) (within (i 1)) (i 3) := by
  rw [exit_main_arg1, exit_main_arg5, exit_main_arg7, exit_main_v0_0, exit_main_v0_2, exit_main_v0_3, Decode.q_final, Decode.v_final, Decode.do_final]
  exact ReferenceValue.dk_at (Decode.qCodes m c) (Decode.kCodes m c) (Decode.vCodes m c) (Decode.doCodes m c)
    (m ((c.tc : Thread nD τ).loc main_arg1)) (m ((c.tc : Thread nD τ).loc main_arg3)) (m ((c.tc : Thread nD τ).loc main_arg5))
    (m ((c.tc : Thread nD τ).loc main_arg7)) i

theorem dv_result (c : Dev nD) (i : S2x768x24x192.Idx) :
    val_main_v89 (F := Ideal) (exitV m c (Proc.devRef .tc main_arg1)) (exitV m c (Proc.devRef .tc main_arg3)) (exitV m c (Proc.devRef .tc main_arg7)) (exitV m c (Proc.devRef .tc main_v0_0)) (exitV m c (Proc.devRef .tc main_v0_1)) (exitV m c (Proc.devRef .tc main_v0_3)) i
      = (hd m c (i 0) (i 2)).DV scale (chunkOf (i 1)) (within (i 1)) (i 3) := by
  rw [exit_main_arg1, exit_main_arg3, exit_main_arg7, exit_main_v0_0, exit_main_v0_1, exit_main_v0_3, Decode.q_final, Decode.k_final, Decode.do_final]
  exact ReferenceValue.dv_at (Decode.qCodes m c) (Decode.kCodes m c) (Decode.vCodes m c) (Decode.doCodes m c)
    (m ((c.tc : Thread nD τ).loc main_arg1)) (m ((c.tc : Thread nD τ).loc main_arg3)) (m ((c.tc : Thread nD τ).loc main_arg5))
    (m ((c.tc : Thread nD τ).loc main_arg7)) i

end Cert.ReferenceResult

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Run
public import proofs.«01_k».proof.Proof.Gen.KernelIdeal.Read
public import proofs.«01_k».proof.Proof.Gen.ReferenceIdeal.Run
public import proofs.«01_k».proof.Proof.Gen.ReferenceIdeal.Read
public import proofs.«01_k».proof.Proof.KernelValue
public import proofs.«01_k».proof.Proof.ReferenceResult
public import Idealize.ShloMosaic.Adequacy
public import Idealize.ShloMosaic.Init

@[expose] public section

noncomputable section

namespace Cert.Proof

open Idealize.ShloMosaic Idealize.SL.Sem Cert.Kernel

/-- The two programs' arguments agree, so each head of the reference is the kernel's. -/
theorem heads_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (b : Fin 2) (h : Fin 24) : Cert.ReferenceResult.hd m' c b h = Cert.KernelValue.hd m c b h := by
  unfold Cert.ReferenceResult.hd Cert.KernelValue.hd
  rw [h0, h1, h2, h3, h4, h5, h6, h7]

/-- The kernel's three results are the reference's, at the ideal instance. -/
theorem algebraic : Cert.algebraic_KernelIdeal_ReferenceIdeal := by
  intro m ρ m' ρ' _ hagree
  refine ⟨_, _, _, Cert.KernelIdeal.Value.run (F := Ideal) m ρ, ?_⟩
  refine (θ_run Cert.ReferenceIdeal.defs _ _).mono (fun _ h c => ?_) (Cert.ReferenceIdeal.Value.run (F := Ideal) m' ρ')
  obtain ⟨h0, h1, h2, h3, h4, h5, h6, h7⟩ := hagree c
  have hh := heads_agree m m' c h0 h1 h2 h3 h4 h5 h6 h7
  refine ⟨(h c).1.trans ?_, (h c).2.1.trans ?_, (h c).2.2.1.trans ?_, (h c).2.2.2⟩
  · refine (Cert.ReferenceIdeal.Read.val_main_v79_eq _).trans (funext fun i => ?_)
    exact (Cert.ReferenceResult.dq_result m' c i).trans ((congrArg (fun H : Cert.Spec.Head => H.DQ Cert.Spec.scale
      (Cert.Spec.chunkOf (i 1)) (Cert.Spec.within (i 1)) (i 3)) (hh (i 0) (i 2))).trans (Cert.KernelValue.dq_result m c i).symm)
  · refine (Cert.ReferenceIdeal.Read.val_main_v84_eq _).trans (funext fun i => ?_)
    exact (Cert.ReferenceResult.dk_result m' c i).trans ((congrArg (fun H : Cert.Spec.Head => H.DK Cert.Spec.scale
      (Cert.Spec.chunkOf (i 1)) (Cert.Spec.within (i 1)) (i 3)) (hh (i 0) (i 2))).trans (Cert.KernelValue.dk_result m c i).symm)
  · refine (Cert.ReferenceIdeal.Read.val_main_v89_eq _).trans (funext fun i => ?_)
    exact (Cert.ReferenceResult.dv_result m' c i).trans ((congrArg (fun H : Cert.Spec.Head => H.DV Cert.Spec.scale
      (Cert.Spec.chunkOf (i 1)) (Cert.Spec.within (i 1)) (i 3)) (hh (i 0) (i 2))).trans (Cert.KernelValue.dv_result m c i).symm)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
